-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_graph_ids [hPre_sorted_graph_ids : Cert.Pre_sorted_graph_ids.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_graph_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_graph_ids [hPre_sorted_graph_ids : Cert.Pre_sorted_graph_ids.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_graph_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sorted_graph_ids [hKernelIdeal : Cert.KernelIdeal.Facts] [hPre_sorted_graph_ids : Cert.Pre_sorted_graph_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_graph_ids m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sorted_graph_ids [hReferenceIdeal : Cert.ReferenceIdeal.Facts] [hPre_sorted_graph_ids : Cert.Pre_sorted_graph_ids.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_graph_ids m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_sorted_graph_ids [hKernelIdeal : Cert.KernelIdeal.Facts] [hReferenceIdeal : Cert.ReferenceIdeal.Facts] [hPre_sorted_graph_ids : Cert.Pre_sorted_graph_ids.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_graph_ids m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_sorted_graph_ids : Cert.Pre_sorted_graph_ids.Facts),
    quiescent_Kernel (hKernel := hKernel)
    ∧ quiescent_KernelIdeal (hKernelIdeal := hKernelIdeal)
    ∧ quiescent_KernelIdeal_pre_sorted_graph_ids (hKernelIdeal := hKernelIdeal) (hPre_sorted_graph_ids := hPre_sorted_graph_ids)
    ∧ quiescent_ReferenceIdeal (hReferenceIdeal := hReferenceIdeal)
    ∧ quiescent_ReferenceIdeal_pre_sorted_graph_ids (hReferenceIdeal := hReferenceIdeal) (hPre_sorted_graph_ids := hPre_sorted_graph_ids)
    ∧ preserves_Kernel_KernelIdeal
    ∧ algebraic_KernelIdeal_ReferenceIdeal_pre_sorted_graph_ids (hKernelIdeal := hKernelIdeal) (hReferenceIdeal := hReferenceIdeal) (hPre_sorted_graph_ids := hPre_sorted_graph_ids)
-- ==== Pre_sorted_graph_ids.lean ====
abbrev S100000x512 : Shape := ⟨2, ![100000, 512]⟩
abbrev S100000 : Shape := ⟨1, ![100000]⟩
abbrev S99999 : Shape := ⟨1, ![99999]⟩
abbrev S_ : Shape := ⟨0, ![]⟩

class Facts : Prop where
  slices_S100000_S99999_0 : S100000.Slices ![0] S99999
  bcast_S_S99999 : S_.BroadcastsInDim S99999 (![] : Fin 0 → Fin S99999.rank)
  slices_S100000_S99999_1 : S100000.Slices ![1] S99999

variable [Facts]

def fn {F : FTy → Type} [FloatOps F] (main_arg0 : FVec F S100000x512 .f32) (main_arg1 : IVec S100000 32) : IVec S99999 1 :=
  let main_v0 : IVec S99999 32 := (extractStridedSlice S99999 ![0] · slices_S100000_S99999_0) main_arg1
  let main_c : IVec S_ 32 := constantI S_ 32 0#32
  let main_v1 : IVec S99999 32 := broadcastInDim S99999 ![] bcast_S_S99999 main_c
  let main_v2 : IVec S99999 1 := cmpi .sge main_v0 main_v1
  let main_v3 : IVec S99999 32 := (extractStridedSlice S99999 ![0] · slices_S100000_S99999_0) main_arg1
  let main_v4 : IVec S99999 32 := (extractStridedSlice S99999 ![1] · slices_S100000_S99999_1) main_arg1
  let main_v5 : IVec S99999 1 := cmpi .sle main_v3 main_v4
  let main_v6 : IVec S99999 1 := andi main_v2 main_v5
  let main_v7 : IVec S99999 32 := (extractStridedSlice S99999 ![1] · slices_S100000_S99999_1) main_arg1
  let main_c_0 : IVec S_ 32 := constantI S_ 32 128#32
  let main_v8 : IVec S99999 32 := broadcastInDim S99999 ![] bcast_S_S99999 main_c_0
  let main_v9 : IVec S99999 1 := cmpi .slt main_v7 main_v8
  let main_v10 : IVec S99999 1 := andi main_v6 main_v9
  main_v10
-- ==== Kernel.lean ====
abbrev S100000x512 : Shape := ⟨2, ![100000, 512]⟩
abbrev S100000 : Shape := ⟨1, ![100000]⟩
abbrev S32x128 : Shape := ⟨2, ![32, 128]⟩
abbrev S3128 : Shape := ⟨1, ![3128]⟩
abbrev S128 : Shape := ⟨1, ![128]⟩
abbrev S16 : Shape := ⟨1, ![16]⟩
abbrev S_ : Shape := ⟨0, ![]⟩
abbrev S3032 : Shape := ⟨1, ![3032]⟩
abbrev S1x128 : Shape := ⟨2, ![1, 128]⟩
abbrev S102400 : Shape := ⟨1, ![102400]⟩
abbrev S4096x512 : Shape := ⟨2, ![4096, 512]⟩
abbrev S4096 : Shape := ⟨1, ![4096]⟩
abbrev S4096x128 : Shape := ⟨2, ![4096, 128]⟩
abbrev S4096x1 : Shape := ⟨2, ![4096, 1]⟩

abbrev nBuf : Table → Nat
  | .hbm => 7
  | .local .tc .vmem => 6
  | .local .scVector .vmem => 2
  | _ => 0

abbrev bufTy : (tb : Table) → Fin (nBuf tb) → BufTy
  | .hbm, ⟨0, _⟩ => ⟨S100000x512, .f32⟩
  | .hbm, ⟨1, _⟩ => ⟨S100000, .i32⟩
  | .hbm, ⟨2, _⟩ => ⟨S32x128, .i32⟩
  | .hbm, ⟨3, _⟩ => ⟨S_, .i32⟩
  | .hbm, ⟨4, _⟩ => ⟨S_, .i32⟩
  | .hbm, ⟨5, _⟩ => ⟨S102400, .i32⟩
  | .hbm, ⟨6, _⟩ => ⟨S100000x512, .f32⟩
  | .local .tc .vmem, ⟨0, _⟩ => ⟨S4096x512, .f32⟩
  | .local .tc .vmem, ⟨1, _⟩ => ⟨S4096x512, .f32⟩
  | .local .tc .vmem, ⟨2, _⟩ => ⟨S102400, .i32⟩
  | .local .tc .vmem, ⟨3, _⟩ => ⟨S32x128, .i32⟩
  | .local .tc .vmem, ⟨4, _⟩ => ⟨S4096x512, .f32⟩
  | .local .tc .vmem, ⟨5, _⟩ => ⟨S4096x512, .f32⟩
  | .local .scVector .vmem, ⟨0, _⟩ => ⟨S3128, .i32⟩
  | .local .scVector .vmem, ⟨1, _⟩ => ⟨S128, .i32⟩
  | _, _ => ⟨S100000x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_arg1_scv : Ref sig .scVector := ⟨.hbm, 1, rfl⟩
abbrev main_v0_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg3_1 : Ref sig .tc := ⟨.vmem, 5, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v3 : BitVec 1 := Scalar.cmpi .slt v1 c31_i32
  let v4 : BitVec 32 := Scalar.extui v3
  let c0_i32 : BitVec 32 := 0#32
  let v5 : BitVec 1 := Scalar.cmpi .ne v4 c0_i32
  v5

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3128_i32_6 : BitVec 32 := 3128#32
  let v13 : BitVec 32 := Scalar.muli v1 c3128_i32_6
  ![v13.toNat]
@[reducible] def k0_t1_loop : Scf.Loop 32 :=
  let c0_i32_4 : BitVec 32 := 0#32
  let c4_i32 : BitVec 32 := 4#32
  let v11 : BitVec 32 := Scalar.addi c0_i32_4 c4_i32
  let c1_i32 : BitVec 32 := 1#32
  ⟨c0_i32_4, v11, c1_i32⟩
@[reducible] def k0_t2_loop : Scf.Loop 32 :=
  let c0_i32_8 : BitVec 32 := 0#32
  let c12_i32 : BitVec 32 := 12#32
  let v22 : BitVec 32 := Scalar.addi c0_i32_8 c12_i32
  let c1_i32_9 : BitVec 32 := 1#32
  ⟨c0_i32_8, v22, c1_i32_9⟩

def k0_chk1 (v37 : IVec S16 32) : Prop :=
  (∀ a x, ((![v37] : Fin 1 → IVec S16 32) a x).toNat < S3128.size a)
theorem k0_idx1_inb : ∀ (v37 : IVec S16 32) (k0_hw1 : k0_chk1 v37), ∀ a x, ((![v37] : Fin 1 → IVec S16 32) a x).toNat < S3128.size a := fun v37 k0_hw1 => k0_hw1

def k0_chk2 (v53 : IVec S16 32) : Prop :=
  (∀ a x, ((![v53] : Fin 1 → IVec S16 32) a x).toNat < S3128.size a)
theorem k0_idx2_inb : ∀ (v53 : IVec S16 32) (k0_hw2 : k0_chk2 v53), ∀ a x, ((![v53] : Fin 1 → IVec S16 32) a x).toNat < S3128.size a := fun v53 k0_hw2 => k0_hw2
def k0_off2 (k0_t1 : Fin k0_t1_loop.trips) : Fin 1 → Nat :=
  let c0_i32_4 : BitVec 32 := 0#32
  let c1_i32 : BitVec 32 := 1#32
  let arg6 : BitVec 32 := Scf.iv c0_i32_4 c1_i32 k0_t1
  let c16_i32_11 : BitVec 32 := 16#32
  let v24 : BitVec 32 := Scalar.muli arg6 c16_i32_11
  let v25 : Index := Scalar.indexCast v24
  ![v25.toNat]
def k0_off3 (k0_t1 : Fin k0_t1_loop.trips) : Fin 1 → Nat :=
  let c0_i32_4 : BitVec 32 := 0#32
  let c1_i32 : BitVec 32 := 1#32
  let arg6 : BitVec 32 := Scf.iv c0_i32_4 c1_i32 k0_t1
  let c16_i32_12 : BitVec 32 := 16#32
  let v27 : BitVec 32 := Scalar.muli arg6 c16_i32_12
  let c64_i32_13 : BitVec 32 := 64#32
  let v28 : BitVec 32 := Scalar.addi v27 c64_i32_13
  let v29 : Index := Scalar.indexCast v28
  ![v29.toNat]
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_6_r2 : BitVec 32 := 0#32
  ![v1.toNat, 0]
abbrev grid1 : Pipeline.Grid := ⟨1, ![25], ![false]⟩

def k1_off1 (i : grid1.Coords) : Fin 1 → Nat :=
  let arg0 : BitVec 32 := BitVec.ofNat 32 (i 0).val
  let c4096_i32 : BitVec 32 := 4096#32
  let v14 : BitVec 32 := Scalar.muli arg0 c4096_i32
  let v15 : Index := Scalar.indexCast v14
  ![v15.toNat]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S102400 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x128 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x512 : Shape := ⟨2, ![100000, 512]⟩
abbrev S100000 : Shape := ⟨1, ![100000]⟩
abbrev S_ : Shape := ⟨0, ![]⟩
abbrev S128 : Shape := ⟨1, ![128]⟩
abbrev S100000x1 : Shape := ⟨2, ![100000, 1]⟩

abbrev nBuf : Space → Nat
  | .hbm => 35
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S100000, .i32⟩
  | .hbm, ⟨2, _⟩ => ⟨S_, .i32⟩
  | .hbm, ⟨3, _⟩ => ⟨S128, .i32⟩
  | .hbm, ⟨4, _⟩ => ⟨S_, .i32⟩
  | .hbm, ⟨5, _⟩ => ⟨S_, .i32⟩
  | .hbm, ⟨6, _⟩ => ⟨S100000, .i32⟩
  | .hbm, ⟨7, _⟩ => ⟨S100000, .i32⟩
  | .hbm, ⟨8, _⟩ => ⟨S_, .i32⟩
  | .hbm, ⟨9, _⟩ => ⟨S100000, .i32⟩
  | .hbm, ⟨10, _⟩ => ⟨S100000, .i1⟩
  | .hbm, ⟨11, _⟩ => ⟨S_, .i32⟩
  | .hbm, ⟨12, _⟩ => ⟨S100000, .i32⟩
  | .hbm, ⟨13, _⟩ => ⟨S100000, .i32⟩
  | .hbm, ⟨14, _⟩ => ⟨S100000, .i32⟩
  | .hbm, ⟨15, _⟩ => ⟨S100000x1, .i32⟩
  | .hbm, ⟨16, _⟩ => ⟨S_, .i32⟩
  | .hbm, ⟨17, _⟩ => ⟨S100000, .i32⟩
  | .hbm, ⟨18, _⟩ => ⟨S128, .i32⟩
  | .hbm, ⟨19, _⟩ => ⟨S128, .f32⟩
  | .hbm, ⟨20, _⟩ => ⟨S_, .f32⟩
  | .hbm, ⟨21, _⟩ => ⟨S128, .f32⟩
  | .hbm, ⟨22, _⟩ => ⟨S128, .f32⟩
  | .hbm, ⟨23, _⟩ => ⟨S_, .i32⟩
  | .hbm, ⟨24, _⟩ => ⟨S100000, .i32⟩
  | .hbm, ⟨25, _⟩ => ⟨S100000, .i1⟩
  | .hbm, ⟨26, _⟩ => ⟨S_, .i32⟩
  | .hbm, ⟨27, _⟩ => ⟨S100000, .i32⟩
  | .hbm, ⟨28, _⟩ => ⟨S100000, .i32⟩
  | .hbm, ⟨29, _⟩ => ⟨S100000, .i32⟩
  | .hbm, ⟨30, _⟩ => ⟨S100000x1, .i32⟩
  | .hbm, ⟨31, _⟩ => ⟨S100000, .f32⟩
  | .hbm, ⟨32, _⟩ => ⟨S100000x1, .f32⟩
  | .hbm, ⟨33, _⟩ => ⟨S100000x512, .f32⟩
  | .hbm, ⟨34, _⟩ => ⟨S100000x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_v1 : Ref sig .tc := ⟨.hbm, 7, rfl⟩
abbrev main_c_1 : Ref sig .tc := ⟨.hbm, 8, rfl⟩
abbrev main_v2 : Ref sig .tc := ⟨.hbm, 9, rfl⟩
abbrev main_v3 : Ref sig .tc := ⟨.hbm, 10, rfl⟩
abbrev main_c_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_c_4 : Ref sig .tc := ⟨.hbm, 23, rfl⟩
abbrev main_v13 : Ref sig .tc := ⟨.hbm, 24, rfl⟩
abbrev main_v14 : Ref sig .tc := ⟨.hbm, 25, rfl⟩
abbrev main_c_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]
-- ==== Proof.Search.lean ====
/-
  The binary search one lane of a tile runs, over natural numbers, and the words the kernel's payloads compute from it.
  Tile `w` holds the chunk of `chunkLen w` graph ids that starts at word `3128 * w` of `batch`; for a graph number `g` a
  lane halves the interval `[lo, hi)` twelve times, starting from the whole chunk.
-/
module

public import proofs.«01_k».proof.Proof.Gen.KernelIdeal
public import proofs.«01_k».proof.Proof.Gen.KernelIdeal.Skeleton

@[expose] public section

noncomputable section

namespace Cert.Proof.Search

open Cert.KernelIdeal Cert.KernelIdeal.Gen
open Idealize.ShloMosaic

/-- Word `k` of the graph ids. -/
def idAt (b : S100000.Idx → BitVec 32) (k : ℕ) : BitVec 32 :=
  if h : k < 100000 then b (fun | 0 => ⟨k, h⟩) else 0#32

/-- The number of graph ids in tile `w`'s chunk. -/
def chunkLen (w : ℕ) : ℕ := if w = 31 then 3032 else 3128

/-- Id `j` of tile `w`'s chunk, as a signed number. -/
def chunkId (b : S100000.Idx → BitVec 32) (w j : ℕ) : ℤ := (idAt b (3128 * w + j)).toInt

/-- One halving of `[p.1, p.2)`, for a list `rd` of length `n` and the number `g`. -/
def halve (n : ℕ) (rd : ℕ → ℤ) (g : ℤ) (p : ℕ × ℕ) : ℕ × ℕ :=
  (if p.1 < p.2 ∧ rd (min ((p.1 + p.2) / 2) (n - 1)) ≤ g then (p.1 + p.2) / 2 + 1 else p.1,
   if p.1 < p.2 ∧ g < rd (min ((p.1 + p.2) / 2) (n - 1)) then (p.1 + p.2) / 2 else p.2)

/-- The interval after `k` halvings. -/
def state (b : S100000.Idx → BitVec 32) (w : ℕ) (g : ℤ) (k : ℕ) : ℕ × ℕ :=
  (halve (chunkLen w) (chunkId b w) g)^[k] (0, chunkLen w)

/-- What the search of tile `w` for graph `g` ends at. -/
def found (b : S100000.Idx → BitVec 32) (w g : ℕ) : ℕ := (state b w g 12).1

theorem state_succ (b : S100000.Idx → BitVec 32) (w : ℕ) (g : ℤ) (k : ℕ) :
    state b w g (k + 1) = halve (chunkLen w) (chunkId b w) g (state b w g k) :=
  Function.iterate_succ_apply' _ _ _

theorem halve_inv {n : ℕ} {rd : ℕ → ℤ} {g : ℤ} {p : ℕ × ℕ} (h : p.1 ≤ p.2 ∧ p.2 ≤ n) :
    (halve n rd g p).1 ≤ (halve n rd g p).2 ∧ (halve n rd g p).2 ≤ n := by
  obtain ⟨lo, hi⟩ := p
  simp only [halve] at *
  split_ifs <;> omega

theorem state_inv (b : S100000.Idx → BitVec 32) (w : ℕ) (g : ℤ) (k : ℕ) :
    (state b w g k).1 ≤ (state b w g k).2 ∧ (state b w g k).2 ≤ chunkLen w := by
  induction k with
  | zero => exact ⟨Nat.zero_le _, le_rfl⟩
  | succ k ih => rw [state_succ]; exact halve_inv ih

theorem chunkLen_pos (w : ℕ) : 0 < chunkLen w := by unfold chunkLen; split_ifs <;> omega
theorem chunkLen_le (w : ℕ) : chunkLen w ≤ 3128 := by unfold chunkLen; split_ifs <;> omega

/-! ## Small words -/

theorem toInt_small {a : ℕ} (h : a < 2 ^ 31) : (BitVec.ofNat 32 a).toInt = a := by
  rw [BitVec.toInt_eq_toNat_cond, BitVec.toNat_ofNat]
  rw [Nat.mod_eq_of_lt (by omega), if_pos (by omega)]

theorem slt_small {a c : ℕ} (ha : a < 2 ^ 31) (hc : c < 2 ^ 31) :
    (BitVec.ofNat 32 a).slt (BitVec.ofNat 32 c) = decide (a < c) := by
  rw [BitVec.slt_eq_decide, toInt_small ha, toInt_small hc]
  simp

theorem mid_small {a c : ℕ} (ha : a ≤ 3128) (hc : c ≤ 3128) :
    IntOp.shrsi .vector (IntOp.addi (BitVec.ofNat 32 a) (BitVec.ofNat 32 c)) 1#32 = BitVec.ofNat 32 ((a + c) / 2) := by
  have e : IntOp.addi (BitVec.ofNat 32 a) (BitVec.ofNat 32 c) = BitVec.ofNat 32 (a + c) := by
    unfold IntOp.addi; apply BitVec.eq_of_toNat_eq; simp
  rw [e]
  unfold IntOp.shrsi
  rw [if_pos (by decide)]
  apply BitVec.eq_of_toInt_eq
  show ((BitVec.ofNat 32 (a + c)).sshiftRight (1#32).toNat).toInt = _
  rw [BitVec.toInt_sshiftRight, toInt_small (by omega), toInt_small (by omega)]
  simp [Int.shiftRight_eq_div_pow]

theorem min_small {a c : ℕ} (ha : a < 2 ^ 31) (hc : c < 2 ^ 31) :
    IntOp.minsi (BitVec.ofNat 32 a) (BitVec.ofNat 32 c) = BitVec.ofNat 32 (min a c) := by
  unfold IntOp.minsi
  rw [slt_small ha hc]
  by_cases h : a < c
  · rw [if_pos (by simpa using h), min_eq_left h.le]
  · rw [if_neg (by simpa using h), min_eq_right (by omega)]

theorem and_ofBool (p q : Bool) : IntOp.andi (BitVec.ofBool p) (BitVec.ofBool q) = BitVec.ofBool (p && q) := by
  cases p <;> cases q <;> decide

theorem select_ofBool {α : Type} (p : Bool) (x y : α) : Scalar.select (BitVec.ofBool p) x y = if p = true then x else y := by
  unfold Scalar.select; cases p <;> rfl

/-! ## Where a tile stands -/

/-- The number of the tile on core `i 0`, subcore `i 1`. -/
def tile (i : grid0.Coords) : ℕ := 2 * (i 1).val + (i 0).val

theorem core_lt (i : grid0.Coords) : (i 0).val < 2 := (i 0).isLt
theorem sub_lt (i : grid0.Coords) : (i 1).val < 16 := (i 1).isLt
theorem tile_lt (i : grid0.Coords) : tile i < 32 := by have := core_lt i; have := sub_lt i; unfold tile; omega

theorem tile_word (i : grid0.Coords) :
    Scalar.addi (Scalar.muli (BitVec.ofNat 32 (i 1).val) 2#32) (BitVec.ofNat 32 (i 0).val) = BitVec.ofNat 32 (tile i) := by
  have h0 := core_lt i; have h1 := sub_lt i
  unfold Scalar.addi Scalar.muli IntOp.addi IntOp.muli tile
  apply BitVec.eq_of_toNat_eq
  simp only [BitVec.toNat_add, BitVec.toNat_mul, BitVec.toNat_ofNat]
  omega

theorem len_word (i : grid0.Coords) :
    Scalar.select (Scalar.cmpi .eq (Scalar.addi (Scalar.muli (BitVec.ofNat 32 (i 1).val) 2#32) (BitVec.ofNat 32 (i 0).val)) 31#32) 3032#32 3128#32
      = BitVec.ofNat 32 (chunkLen (tile i)) := by
  rw [tile_word]
  have ht := tile_lt i
  generalize tile i = w at ht
  revert w; decide

theorem cond1_iff (i : grid0.Coords) : k0_cond1 i = 1#1 ↔ tile i ≠ 31 := by
  have e : k0_cond1 i = Scalar.cmpi .ne (Scalar.extui (Scalar.cmpi .slt (BitVec.ofNat 32 (tile i)) 31#32) : BitVec 32) 0#32 := by
    rw [← tile_word]; rfl
  rw [e]
  have ht := tile_lt i
  generalize tile i = w at ht
  revert w; decide

theorem cond2_iff (i : grid0.Coords) :
    Scalar.cmpi .ne (Scalar.extui (Scalar.cmpi .eq (Scalar.addi (Scalar.muli (BitVec.ofNat 32 (i 1).val) 2#32) (BitVec.ofNat 32 (i 0).val)) 31#32) : BitVec 32) 0#32 = 1#1
      ↔ tile i = 31 := by
  rw [tile_word]
  have ht := tile_lt i
  generalize tile i = w at ht
  revert w; decide

/-! ## The payloads, lane by lane -/

/-- The two halves of the payloads the search runs on, read at a lane whose interval is `[p.1, p.2)`. -/
theorem lane_index {i : grid0.Coords} {lo hi : IVec S16 32} {l : S16.Idx} {p : ℕ × ℕ}
    (h : p.1 ≤ p.2 ∧ p.2 ≤ chunkLen (tile i)) (hlo : lo l = BitVec.ofNat 32 p.1) (hhi : hi l = BitVec.ofNat 32 p.2) :
    k0_pay7 i lo hi l = BitVec.ofNat 32 (min ((p.1 + p.2) / 2) (chunkLen (tile i) - 1)) := by
  have hn := chunkLen_le (tile i); have hp := chunkLen_pos (tile i)
  have e : k0_pay7 i lo hi l = IntOp.minsi (IntOp.shrsi .vector (IntOp.addi (lo l) (hi l)) 1#32) (IntOp.subi (BitVec.ofNat 32 (chunkLen (tile i))) 1#32) := by
    rw [← len_word]; rfl
  rw [e, hlo, hhi, mid_small (by omega) (by omega)]
  have e2 : IntOp.subi (BitVec.ofNat 32 (chunkLen (tile i))) 1#32 = BitVec.ofNat 32 (chunkLen (tile i) - 1) := by
    unfold IntOp.subi
    apply BitVec.eq_of_toNat_eq
    simp only [BitVec.toNat_sub, BitVec.toNat_ofNat]
    omega
  rw [e2, min_small (by omega) (by omega)]

theorem index_lt {n a : ℕ} (hn : 0 < n) (hn' : n ≤ 3128) : (BitVec.ofNat 32 (min a (n - 1))).toNat = min a (n - 1) ∧ min a (n - 1) < n := by
  have : min a (n - 1) ≤ n - 1 := min_le_right _ _
  refine ⟨?_, by omega⟩
  rw [BitVec.toNat_ofNat]; exact Nat.mod_eq_of_lt (by omega)

/-- The new lower end, for any vector `g` of graph numbers. -/
theorem lane_lo {n : ℕ} {rd : ℕ → ℤ} {G : ℤ} {lo hi g v : IVec S16 32} {l : S16.Idx} {p : ℕ × ℕ} (hn : n ≤ 3128)
    (h : p.1 ≤ p.2 ∧ p.2 ≤ n) (hlo : lo l = BitVec.ofNat 32 p.1) (hhi : hi l = BitVec.ofNat 32 p.2)
    (hg : (g l).toInt = G) (hv : (v l).toInt = rd (min ((p.1 + p.2) / 2) (n - 1))) :
    select (andi (cmpi .slt lo hi) (cmpi .sle v g)) (addi (shrsi (addi lo hi) (broadcast S16 1#32)) (broadcast S16 1#32)) lo l
      = BitVec.ofNat 32 (halve n rd G p).1 := by
  show Scalar.select (IntOp.andi (IntOp.cmpi .slt (lo l) (hi l)) (IntOp.cmpi .sle (v l) (g l)))
    (IntOp.addi (IntOp.shrsi .vector (IntOp.addi (lo l) (hi l)) 1#32) 1#32) (lo l) = _
  rw [hlo, hhi, mid_small (by omega) (by omega)]
  simp only [IntOp.cmpi]
  rw [and_ofBool, select_ofBool, slt_small (by omega) (by omega), BitVec.sle_eq_decide, hg, hv]
  simp only [halve]
  by_cases hc : p.1 < p.2 ∧ rd (min ((p.1 + p.2) / 2) (n - 1)) ≤ G
  · rw [if_pos (by simpa using hc), if_pos hc]
    unfold IntOp.addi; apply BitVec.eq_of_toNat_eq; simp
  · rw [if_neg (by simpa using hc), if_neg hc]

/-- The new upper end. -/
theorem lane_hi {n : ℕ} {rd : ℕ → ℤ} {G : ℤ} {lo hi g v : IVec S16 32} {l : S16.Idx} {p : ℕ × ℕ} (hn : n ≤ 3128)
    (h : p.1 ≤ p.2 ∧ p.2 ≤ n) (hlo : lo l = BitVec.ofNat 32 p.1) (hhi : hi l = BitVec.ofNat 32 p.2)
    (hg : (g l).toInt = G) (hv : (v l).toInt = rd (min ((p.1 + p.2) / 2) (n - 1))) :
    select (andi (cmpi .slt lo hi) (cmpi .sgt v g)) (shrsi (addi lo hi) (broadcast S16 1#32)) hi l
      = BitVec.ofNat 32 (halve n rd G p).2 := by
  show Scalar.select (IntOp.andi (IntOp.cmpi .slt (lo l) (hi l)) (IntOp.cmpi .sgt (v l) (g l)))
    (IntOp.shrsi .vector (IntOp.addi (lo l) (hi l)) 1#32) (hi l) = _
  rw [hlo, hhi, mid_small (by omega) (by omega)]
  simp only [IntOp.cmpi]
  rw [and_ofBool, select_ofBool, slt_small (by omega) (by omega), BitVec.slt_eq_decide, hg, hv]
  simp only [halve]
  by_cases hc : p.1 < p.2 ∧ G < rd (min ((p.1 + p.2) / 2) (n - 1))
  · rw [if_pos (by simpa using hc), if_pos hc]
  · rw [if_neg (by simpa using hc), if_neg hc]

/-- The graph numbers of the first vector of trip `t`. -/
theorem graph_first (t : Fin k0_t1_loop.trips) (l : S16.Idx) : (k0_pay1 t l).toInt = ((16 * t.val + (l 0).val : ℕ) : ℤ) := by
  have ht : t.val < 4 := t.isLt
  have hl : (l 0).val < 16 := (l 0).isLt
  have e : k0_pay1 t l = BitVec.ofNat 32 (16 * t.val + (l 0).val) := by
    show IntOp.addi (iota .scVector S16 32 [0] iota_S16_d0_w32_scVector l) (Scalar.muli 16#32 (Scf.iv 0#32 1#32 t)) = _
    unfold iota IntOp.addi Scalar.muli IntOp.muli Scf.iv
    apply BitVec.eq_of_toNat_eq
    simp [BitVec.toNat_add, BitVec.toNat_mul]
    omega
  rw [e, toInt_small (by omega)]

/-- The graph numbers of the second vector of trip `t`. -/
theorem graph_second (t : Fin k0_t1_loop.trips) (l : S16.Idx) : (k0_pay2 t l).toInt = ((16 * t.val + 64 + (l 0).val : ℕ) : ℤ) := by
  have ht : t.val < 4 := t.isLt
  have hl : (l 0).val < 16 := (l 0).isLt
  have e : k0_pay2 t l = BitVec.ofNat 32 (16 * t.val + 64 + (l 0).val) := by
    show IntOp.addi (IntOp.addi (iota .scVector S16 32 [0] iota_S16_d0_w32_scVector l) (Scalar.muli 16#32 (Scf.iv 0#32 1#32 t))) 64#32 = _
    unfold iota IntOp.addi Scalar.muli IntOp.muli Scf.iv
    apply BitVec.eq_of_toNat_eq
    simp [BitVec.toNat_add, BitVec.toNat_mul]
    omega
  rw [e, toInt_small (by omega)]

end Cert.Proof.Search

end
-- ==== Proof.Setup.lean ====
/-
  The program as the launch theorem sees it: its body table, the resource algebra, the buffers, and what the one
  SparseCore call hands its tiles. Each of the 32 tiles reads the graph ids through a share of the whole array and
  writes its own row of the table of counts; the row it leaves is a function of the graph ids alone (`counts`).
-/
module

public import proofs.«01_k».proof.Proof.Search
public import proofs.«01_k».proof.Proof.Gen.KernelIdeal.Launch
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Transfers
public import Idealize.ShloMosaic.Lib.Tactic

@[expose] public section

noncomputable section

namespace Cert.Proof.Run

open Cert.KernelIdeal Cert.KernelIdeal.Gen Cert.Proof.Search

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UT : Type := UR sig nD τ × Counters
abbrev UU : Type := UH × UT

local notation "𝕄" => MT nD τ sig (HIx 1) (Elt F) ℕ UU ℕ

abbrev EH : Emb UH (MT nD τ sig (HIx 1) (Elt F) ℕ UU ℕ) := embL
/-- The pipeline's component. -/
def EP : Emb (UR sig nD τ) (MT nD τ sig (HIx 1) (Elt F) ℕ UU ℕ) :=
  (Emb.inl : Emb (UR sig nD τ) UT).trans (embR : Emb UT (MT nD τ sig (HIx 1) (Elt F) ℕ UU ℕ))

instance EP_landsIn : (EP : Emb (UR sig nD τ) (MT nD τ sig (HIx 1) (Elt F) ℕ UU ℕ)).LandsIn (upEmb : UEmb _ (MT nD τ sig (HIx 1) (Elt F) ℕ UU ℕ)) := by
  unfold EP; infer_instance

/-! ## The buffers -/

variable (m : (ℓ : Loc nD τ sig) → Buf (Elt F) ℓ) (ρ : Dev nD → PrngReg)

abbrev xLoc (d : Dev nD) : Loc nD τ sig := (SparseCore.T d).loc main_arg0
abbrev iLoc (d : Dev nD) : Loc nD τ sig := (SparseCore.T d).loc main_arg1
abbrev nLoc (d : Dev nD) : Loc nD τ sig := (SparseCore.T d).loc main_v0

/-- The elements of row `w` of the table of counts. -/
def rowSet (w : ℕ) : Finset S32x128.Idx := Finset.univ.filter fun x => (x 0).val = w
/-- The rows core `c`'s tiles write. -/
def coreSet (c : ℕ) : Finset S32x128.Idx := Finset.univ.filter fun x => (x 0).val % 2 = c

/-- The table of counts the tiles leave: entry `(w, g)` is where tile `w`'s search for graph `g` ends. -/
def counts (b : S100000.Idx → BitVec 32) : S32x128.Idx → BitVec 32 :=
  fun x => BitVec.ofNat 32 (found b (x 0).val (x 1).val)

/-- The share of the graph ids core `c` reads through, and the one its tile `s` does. -/
abbrev coreShare (c : Fin 2) : PosShare TreeShare := Transfers.dealOf fullShare Finset.univ c
abbrev tileShare (c : Fin 2) (s : Fin 16) : PosShare TreeShare := Transfers.dealOf (coreShare c) Finset.univ s

/-! ## What the handshakes carry -/

abbrev iPts (d : Dev nD) (q : PosShare TreeShare) : sProp 𝕄 := iLoc d ↦{q} m (iLoc d)
abbrev nPts (d : Dev nD) (I : Finset S32x128.Idx) (f : Buf (Elt F) (nLoc d)) : sProp 𝕄 := nLoc d ↦[I]{fullShare} f

/-- The one call takes a share of the ids and its rows of counts on each core; each tile its share and its row; the rows
    come back at the counts. -/
def P : (K (F := F)).Pay (nD := nD) (Val := Elt F) (Name := ℕ) (U := UU) where
  st := fun q d c => match q with
    | 0 => iprop(iPts m d (coreShare (Fin.cast nCore_zero c)) ∗ nPts d (coreSet c.val) (m (nLoc d)))
  dn := fun q d c => match q with
    | 0 => iprop(iPts m d (coreShare (Fin.cast nCore_zero c)) ∗ nPts d (coreSet c.val) (counts (m (iLoc d))))
  go := fun q d c i => match q with
    | 0 => iprop(iPts m d (tileShare (Fin.cast nCore_zero c) (Fin.cast nSub_zero i)) ∗ nPts d (rowSet (2 * i.val + c.val)) (m (nLoc d)))
  td := fun q d c i => match q with
    | 0 => iprop(iPts m d (tileShare (Fin.cast nCore_zero c) (Fin.cast nSub_zero i)) ∗ nPts d (rowSet (2 * i.val + c.val)) (counts (m (iLoc d))))
  x := fun _ _ => iprop(emp)

instance P_storable : (P (F := F) m).IsStorable where
  st q d c := match q with
    | 0 => (inferInstance : BI.Storable (upEmb : UEmb _ 𝕄) iprop(iPts m d (coreShare (Fin.cast nCore_zero c)) ∗ nPts d (coreSet c.val) (m (nLoc d))))
  dn q d c := match q with
    | 0 => (inferInstance : BI.Storable (upEmb : UEmb _ 𝕄) iprop(iPts m d (coreShare (Fin.cast nCore_zero c)) ∗ nPts d (coreSet c.val) (counts (m (iLoc d)))))
  go q d c i := match q with
    | 0 => (inferInstance : BI.Storable (upEmb : UEmb _ 𝕄)
      iprop(iPts m d (tileShare (Fin.cast nCore_zero c) (Fin.cast nSub_zero i)) ∗ nPts d (rowSet (2 * i.val + c.val)) (m (nLoc d))))
  td q d c i := match q with
    | 0 => (inferInstance : BI.Storable (upEmb : UEmb _ 𝕄)
      iprop(iPts m d (tileShare (Fin.cast nCore_zero c) (Fin.cast nSub_zero i)) ∗ nPts d (rowSet (2 * i.val + c.val)) (counts (m (iLoc d)))))

/-! ## How the shares and the rows split -/

theorem rowSet_disjoint {w w' : ℕ} (h : w ≠ w') : Disjoint (rowSet w) (rowSet w') := by
  rw [Finset.disjoint_left]
  intro x hx hx'
  exact h ((Finset.mem_filter.mp hx).2.symm.trans (Finset.mem_filter.mp hx').2)

theorem coreSet_eq (c : ℕ) (hc : c < 2) : (Finset.univ : Finset (Fin 16)).biUnion (fun s => rowSet (2 * s.val + c)) = coreSet c := by
  ext x
  have hx : (x 0).val < 32 := (x 0).isLt
  simp only [Finset.mem_biUnion, Finset.mem_univ, true_and, rowSet, coreSet, Finset.mem_filter]
  constructor
  · rintro ⟨s, hs⟩; omega
  · intro h; exact ⟨⟨(x 0).val / 2, by omega⟩, by show (x 0).val = 2 * ((x 0).val / 2) + c; omega⟩

theorem coreSet_univ : (Finset.univ : Finset (Fin 2)).biUnion (fun c => coreSet c.val) = (Finset.univ : Finset S32x128.Idx) := by
  ext x
  simp only [Finset.mem_biUnion, Finset.mem_univ, true_and, coreSet, Finset.mem_filter, iff_true]
  exact ⟨⟨(x 0).val % 2, Nat.mod_lt _ (by decide)⟩, rfl⟩

theorem coreSet_disjoint {c c' : ℕ} (h : c ≠ c') : Disjoint (coreSet c) (coreSet c') := by
  rw [Finset.disjoint_left]
  intro x hx hx'
  exact h ((Finset.mem_filter.mp hx).2.symm.trans (Finset.mem_filter.mp hx').2)

/-- A core's rows are its tiles'. -/
theorem rows_of_core (d : Dev nD) (c : Fin 2) (f : Buf (Elt F) (nLoc d)) :
    (nPts d (coreSet c.val) f : sProp 𝕄) = bigSep Finset.univ fun s : Fin 16 => nPts d (rowSet (2 * s.val + c.val)) f := by
  unfold nPts
  rw [← coreSet_eq c.val c.isLt]
  exact pointsTo_biUnion (ℓ := nLoc d) Finset.univ (fun s : Fin 16 => rowSet (2 * s.val + c.val))
    fun s _ s' _ h => rowSet_disjoint fun e => h (Fin.ext (by omega))

/-- The whole table is the cores' rows. -/
theorem rows_of_all (d : Dev nD) (f : Buf (Elt F) (nLoc d)) :
    (nLoc d ↦{fullShare} f : sProp 𝕄) = bigSep Finset.univ fun c : Fin 2 => nPts d (coreSet c.val) f := by
  unfold nPts
  rw [← pointsTo_biUnion (ℓ := nLoc d) Finset.univ (fun c : Fin 2 => coreSet c.val)
    fun c _ c' _ h => coreSet_disjoint fun e => h (Fin.ext e)]
  exact congrArg (fun I => (nLoc d ↦[I]{fullShare} f : sProp 𝕄)) coreSet_univ.symm

theorem ids_of_core (d : Dev nD) (c : Fin 2) :
    (iPts m d (coreShare c) : sProp 𝕄) = bigSep Finset.univ fun s : Fin 16 => iPts m d (tileShare c s) :=
  Transfers.pointsTo_deal _ Finset.univ_nonempty _

theorem ids_of_all (d : Dev nD) :
    (iPts m d fullShare : sProp 𝕄) = bigSep Finset.univ fun c : Fin 2 => iPts m d (coreShare c) :=
  Transfers.pointsTo_deal _ Finset.univ_nonempty _

theorem vecSplit : (K (F := F)).VecSplit' (P m) 0 := by
  intro d c
  have hgo : (bigSep Finset.univ fun i : Fin ((K (F := F)).nSub 0) => (P m).go 0 d c i)
      = (P (F := F) m).st 0 d c := by
    show (bigSep Finset.univ fun s : Fin 16 => iprop(iPts m d (tileShare (Fin.cast nCore_zero c) s) ∗ nPts d (rowSet (2 * s.val + c.val)) (m (nLoc d))))
      = iprop(iPts m d (coreShare (Fin.cast nCore_zero c)) ∗ nPts d (coreSet (Fin.cast nCore_zero c).val) (m (nLoc d)))
    rw [bigSep_sep', ids_of_core, rows_of_core]; rfl
  have htd : (bigSep Finset.univ fun i : Fin ((K (F := F)).nSub 0) => (P m).td 0 d c i)
      = (P (F := F) m).dn 0 d c := by
    show (bigSep Finset.univ fun s : Fin 16 => iprop(iPts m d (tileShare (Fin.cast nCore_zero c) s) ∗ nPts d (rowSet (2 * s.val + c.val)) (counts (m (iLoc d)))))
      = iprop(iPts m d (coreShare (Fin.cast nCore_zero c)) ∗ nPts d (coreSet (Fin.cast nCore_zero c).val) (counts (m (iLoc d))))
    rw [bigSep_sep', ids_of_core, rows_of_core]; rfl
  rw [hgo, htd]
  iintro H; imodintro
  isplitl [H]; · iexact H
  iintro H; iexact H

/-- The operands of the call on all cores, and its results. -/
theorem st_all (d : Dev nD) : (bigSep Finset.univ fun c : Fin ((K (F := F)).nCore 0) => (P m).st 0 d c)
    = iprop(iPts m d fullShare ∗ nLoc d ↦{fullShare} m (nLoc d)) := by
  show (bigSep Finset.univ fun c : Fin 2 => iprop(iPts m d (coreShare c) ∗ nPts d (coreSet c.val) (m (nLoc d)))) = _
  rw [bigSep_sep', ids_of_all, rows_of_all]
theorem dn_all (d : Dev nD) : (bigSep Finset.univ fun c : Fin ((K (F := F)).nCore 0) => (P m).dn 0 d c)
    = iprop(iPts m d fullShare ∗ nLoc d ↦{fullShare} (counts (m (iLoc d)) : Buf (Elt F) (nLoc d))) := by
  show (bigSep Finset.univ fun c : Fin 2 => iprop(iPts m d (coreShare c) ∗ nPts d (coreSet c.val) (counts (m (iLoc d))))) = _
  rw [bigSep_sep', ids_of_all, rows_of_all]

end Cert.Proof.Run

end
-- ==== Proof.Block.lean ====
/-
  What one grid point of the scaling kernel computes.

  The kernel reads the whole count table, 4096 graph numbers and 4096 rows of `x`, and stores the rows multiplied by
  their row's scale. The rows past the end of the array, at the last grid point, are whatever the buffer held; each
  row's product is its own, so nothing of them reaches the rows inside.
-/
module

public import proofs.«01_k».proof.Proof.Setup
public import proofs.«01_k».proof.Proof.Gen.KernelIdeal.Points
public import proofs.«01_k».proof.Proof.Gen.KernelIdeal.Skeleton
public import Idealize.ShloMosaic.Lib.Pipeline.Value
public import Idealize.ShloMosaic.Lib.Pipeline.Frame
public import Idealize.ShloMosaic.Lib.Pipeline.FrameBody
public import Idealize.ShloMosaic.Lib.Tactic

@[expose] public section

noncomputable section

namespace Cert.Proof.Run

open Cert.KernelIdeal Cert.KernelIdeal.Gen Cert.Proof.Search
open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligationLoose)

variable {F : FTy → Type} [FloatOps F]

local notation "𝕄" => MT nD τ sig (HIx 1) (Elt F) ℕ UU ℕ

/-! ## The value -/

/-- For each graph the number of rows whose graph number is at most it: the table's columns summed. -/
def upTo (cnt : Vec F S32x128 .i32) : FVec F S1x128 .f32 :=
  shapeCast S1x128 (multiReduction .add [0] S128 (sitofp .f32 (shapeCast S32x128 cnt shapeCasts_S32x128_S32x128) : FVec F S32x128 .f32)
    0x00000000#32 reduces_S32x128_S128 (.inl rfl) rfl) shapeCasts_S128_S1x128

/-- The previous graph's number; zero for the first. -/
def upToPrev (cnt : Vec F S32x128 .i32) : FVec F S1x128 .f32 :=
  select (cmpi .eq (iota .tc S1x128 32 [1] iota_S1x128_d1_w32) (broadcast S1x128 0#32))
    (broadcast S1x128 (Scalar.ofBits .f32 0x00000000#32 : F .f32)) (dynamicRotate 1 1#32 none (upTo cnt) rotates_S1x128_d1)

/-- One over the square root of each graph's number of rows. -/
def inverse (cnt : Vec F S32x128 .i32) : FVec F S128 .f32 :=
  shapeCast S128 (rsqrt (subf (upTo cnt) (upToPrev cnt))) shapeCasts_S1x128_S128

/-- Each row's scale: the entry of `inverse` at the row's graph number, picked by summing over all graphs the entry
    where the number matches and zero where not. -/
def rowScale (cnt : Vec F S32x128 .i32) (b : Vec F S4096 .i32) : FVec F S4096 .f32 :=
  multiReduction .add [1] S4096
    (select
      (cmpi .eq
        (broadcastTo S4096x128 (shapeCast S4096x1 (shapeCast S4096 b shapeCasts_S4096_S4096) shapeCasts_S4096_S4096x1) broadcasts_S4096x1_S4096x128)
        (iota .tc S4096x128 32 [1] iota_S4096x128_d1_w32))
      (broadcastTo S4096x128 (shapeCast S1x128 (shapeCast S1x128 (inverse cnt) shapeCasts_S128_S1x128) shapeCasts_S1x128_S1x128) broadcasts_S1x128_S4096x128)
      (broadcast S4096x128 (Scalar.ofBits .f32 0x00000000#32 : F .f32)) : FVec F S4096x128 .f32)
    0x00000000#32 reduces_S4096x128_S4096 (.inl rfl) rfl

/-- The scale over a block's rows and columns. -/
def blockScale (cnt : Vec F S32x128 .i32) (b : Vec F S4096 .i32) : FVec F S4096x512 .f32 :=
  broadcastTo S4096x512 (shapeCast S4096x1 (rowScale cnt b) shapeCasts_S4096_S4096x1) broadcasts_S4096x1_S4096x512

/-- What the body stores is the block times the scale. -/
theorem stored_eq (cnt : Vec F S32x128 .i32) (b : Vec F S4096 .i32) (x : Vec F S4096x512 .f32) :
    k1_pay1 cnt b x = mulf x (blockScale cnt b) := rfl

/-- The graph numbers of block `t`. -/
def numbers (B : S102400.Idx → BitVec 32) (t : ℕ) : S4096.Idx → BitVec 32 := fun j =>
  if h : 4096 * t + (j 0).val < 102400 then B (fun | 0 => ⟨4096 * t + (j 0).val, h⟩) else 0#32

/-- The load of a block's graph numbers reads them. -/
theorem numbers_read (i : grid1.Coords) (B : S102400.Idx → BitVec 32) :
    (Memref.whole cc1_stg1_0 : Memref sig .tc .vmem S102400 .i32).view.readAt (Elt F)
      (Rect.unit (s := S102400) (k1_off1 i) S4096.size (k1_off1_inb i)).toLoadRect B = numbers B (i 0).val := by
  have h0 : k1_off1 i 0 = 4096 * (i 0).val := by rw [k1_off1_eq i]; rfl
  funext j
  have hlt : 4096 * (i 0).val + (j 0).val < 102400 := by
    have := k1_off1_inb i 0; rw [h0] at this
    have hj : (j 0).val < 4096 := (j 0).isLt
    change 4096 * (i 0).val + 4096 ≤ 102400 at this; omega
  unfold numbers
  rw [dif_pos hlt]
  refine ((View.readAt_apply _ _ _).trans ((View.read_apply _ _).trans (cast_eq _ _))).trans ?_
  refine congrArg B ?_
  funext a
  obtain rfl : a = (0 : Fin 1) := Subsingleton.elim (α := Fin 1) _ _
  apply Fin.ext
  change k1_off1 i 0 + 1 * (j 0).val = _
  rw [h0, Nat.one_mul]

/-! ## The body -/

/-- The body on any of its windows' buffers: the three inputs keep their contents, and the result's buffer ends at
    the block times the scale. -/
theorem sound_body (c : Dev nD) (E : Set ℕ) (i : grid1.Coords) (s0 : Fin 2) (s1 s2 : Fin 1) (s3 : Fin 2)
    (X : S4096x512.Idx → Elt F .f32) (B : S102400.Idx → Elt F .i32) (C : S32x128.Idx → Elt F .i32)
    (O : S4096x512.Idx → Elt F .f32) (Q : PUnit → sProp 𝕄) :
    iprop((owns (c : Thread nD τ) (stage1_0 s0) fullShare X ∗ owns (c : Thread nD τ) (stage1_1 s1) fullShare B
            ∗ owns (c : Thread nD τ) (stage1_2 s2) fullShare C ∗ owns (c : Thread nD τ) (stage1_3 s3) fullShare O)
          ∗ (iprop(owns (c : Thread nD τ) (stage1_0 s0) fullShare X ∗ owns (c : Thread nD τ) (stage1_1 s1) fullShare B
                  ∗ owns (c : Thread nD τ) (stage1_2 s2) fullShare C
                  ∗ owns (c : Thread nD τ) (stage1_3 s3) fullShare (mulf X (blockScale C (numbers B (i 0).val)) : S4096x512.Idx → Elt F .f32)) -∗ Q ⟨⟩))
      ⊢ wp frame (wpE (defs₀ (F := F)) 𝒱₀ c none) E
          (cc1__scale_body i (stage1_0 s0) (hstage1_0 s0) (stage1_1 s1) (hstage1_1 s1) (stage1_2 s2) (hstage1_2 s2)
            (stage1_3 s3) (hstage1_3 s3)) Q := by
  have hz : (![0, 0] : Fin 2 → Nat) = fun _ => 0 := funext fun a => by fin_cases a <;> rfl
  have hC : (Memref.whole cc1_stg2_0 : Memref sig .tc _ _ _).view.readAt (Elt F) (Rect.unit (s := S32x128) ![0, 0] S32x128.size
        inb_S32x128_S32x128_0_0).toLoadRect = id := funext (Memref.readAt_unit_zero (Elt F) cc1_stg2_0 hz _)
  have hB := numbers_read (F := F) i
  fin_cases s0 <;> fin_cases s1 <;> fin_cases s2 <;> fin_cases s3
  · have hX : (Memref.whole cc1_stg0_0 : Memref sig .tc _ _ _).view.readAt (Elt F) (Rect.unit (s := S4096x512) ![0, 0] S4096x512.size
        inb_S4096x512_S4096x512_0_0).toLoadRect = id := funext (Memref.readAt_unit_zero (Elt F) cc1_stg0_0 hz _)
    have hO : ∀ f w, (((Memref.whole cc1_stg3_0).access (Rect.unit (s := S4096x512) ![0, 0] S4096x512.size inb_S4096x512_S4096x512_0_0)) :
        View sig .tc _ _ _).write (Elt F) f w Finset.univ = w := Memref.write_access_unit_zero_univ (Elt F) cc1_stg3_0 hz _
    simp only [owns_whole_eq, cc1__scale_body_eq_skeleton]; unfold cc1__scale_body_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hX, hC, hB, hO]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists mulf f0 (blockScale f2 (numbers f1 (i 0).val)); isplitr
      · ipureintro; rw [hf0, hf1, hf2]
      rw [← stored_eq]; iexact H3
  · have hX : (Memref.whole cc1_stg0_0 : Memref sig .tc _ _ _).view.readAt (Elt F) (Rect.unit (s := S4096x512) ![0, 0] S4096x512.size
        inb_S4096x512_S4096x512_0_0).toLoadRect = id := funext (Memref.readAt_unit_zero (Elt F) cc1_stg0_0 hz _)
    have hO : ∀ f w, (((Memref.whole cc1_stg3_1).access (Rect.unit (s := S4096x512) ![0, 0] S4096x512.size inb_S4096x512_S4096x512_0_0)) :
        View sig .tc _ _ _).write (Elt F) f w Finset.univ = w := Memref.write_access_unit_zero_univ (Elt F) cc1_stg3_1 hz _
    simp only [owns_whole_eq, cc1__scale_body_eq_skeleton]; unfold cc1__scale_body_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hX, hC, hB, hO]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists mulf f0 (blockScale f2 (numbers f1 (i 0).val)); isplitr
      · ipureintro; rw [hf0, hf1, hf2]
      rw [← stored_eq]; iexact H3
  · have hX : (Memref.whole cc1_stg0_1 : Memref sig .tc _ _ _).view.readAt (Elt F) (Rect.unit (s := S4096x512) ![0, 0] S4096x512.size
        inb_S4096x512_S4096x512_0_0).toLoadRect = id := funext (Memref.readAt_unit_zero (Elt F) cc1_stg0_1 hz _)
    have hO : ∀ f w, (((Memref.whole cc1_stg3_0).access (Rect.unit (s := S4096x512) ![0, 0] S4096x512.size inb_S4096x512_S4096x512_0_0)) :
        View sig .tc _ _ _).write (Elt F) f w Finset.univ = w := Memref.write_access_unit_zero_univ (Elt F) cc1_stg3_0 hz _
    simp only [owns_whole_eq, cc1__scale_body_eq_skeleton]; unfold cc1__scale_body_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hX, hC, hB, hO]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists mulf f0 (blockScale f2 (numbers f1 (i 0).val)); isplitr
      · ipureintro; rw [hf0, hf1, hf2]
      rw [← stored_eq]; iexact H3
  · have hX : (Memref.whole cc1_stg0_1 : Memref sig .tc _ _ _).view.readAt (Elt F) (Rect.unit (s := S4096x512) ![0, 0] S4096x512.size
        inb_S4096x512_S4096x512_0_0).toLoadRect = id := funext (Memref.readAt_unit_zero (Elt F) cc1_stg0_1 hz _)
    have hO : ∀ f w, (((Memref.whole cc1_stg3_1).access (Rect.unit (s := S4096x512) ![0, 0] S4096x512.size inb_S4096x512_S4096x512_0_0)) :
        View sig .tc _ _ _).write (Elt F) f w Finset.univ = w := Memref.write_access_unit_zero_univ (Elt F) cc1_stg3_1 hz _
    simp only [owns_whole_eq, cc1__scale_body_eq_skeleton]; unfold cc1__scale_body_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hX, hC, hB, hO]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists mulf f0 (blockScale f2 (numbers f1 (i 0).val)); isplitr
      · ipureintro; rw [hf0, hf1, hf2]
      rw [← stored_eq]; iexact H3

end Cert.Proof.Run
-- ==== Proof.Grid.lean ====
/-
  The scaling kernel over its grid of 25 blocks: what each window's buffer holds before and after each point, and what
  the result array holds at the end — every row of `x` times its scale.
-/
module

public import proofs.«01_k».proof.Proof.Block
public import Idealize.ShloMosaic.Lib.Pipeline.Covers

@[expose] public section

noncomputable section

namespace Cert.Proof.Run

open Cert.KernelIdeal Cert.KernelIdeal.Gen Cert.Proof.Search

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligationLoose)

variable {F : FTy → Type} [FloatOps F]

local notation "𝕄" => MT nD τ sig (HIx 1) (Elt F) ℕ UU ℕ

-- what the arrays hold when the kernel starts
variable (A : Dev nD → Valuation τ sig (Elt F))

/-- `x`. -/
abbrev xOf (c : Dev nD) : S100000x512.Idx → Elt F .f32 := A c (Proc.devRef .tc main_arg0)
/-- The graph numbers, padded. -/
abbrev bOf (c : Dev nD) : S102400.Idx → Elt F .i32 := A c (Proc.devRef .tc main_v1)
/-- The counts. -/
abbrev cOf (c : Dev nD) : S32x128.Idx → Elt F .i32 := A c (Proc.devRef .tc main_v0)

/-- The rows of block `t` that lie inside the array. -/
def rows (c : Dev nD) (t : Fin cfg1.N) : (win1_0.xblock (grid1.coords t)).Idx → Elt F .f32 :=
  (win1_0.blk t).view.read (Elt F) (xOf A c)

/-- Block `t`'s rows, filled out with `d`. -/
def filled (c : Dev nD) (t : Fin cfg1.N) (d : S4096x512.Idx → Elt F .f32) : S4096x512.Idx → Elt F .f32 :=
  win1_0.fill (grid1.coords t) d (rows A c t)

/-- The scale of block `t`'s rows. -/
def scaleAt (c : Dev nD) (t : Fin cfg1.N) : FVec F S4096x512 .f32 :=
  blockScale (F := F) (cOf A c) (numbers (bOf A c) (grid1.coords t 0).val)

/-- Block `t` of the result. -/
def product (c : Dev nD) (t : Fin cfg1.N) (d : S4096x512.Idx → Elt F .f32) : S4096x512.Idx → Elt F .f32 :=
  mulf (filled A c t d : FVec F S4096x512 .f32) (scaleAt A c t)

/-- A block of zeros. -/
def zeros : S4096x512.Idx → Elt F .f32 := fun _ => Scalar.ofBits .f32 0#32

/-- The waits made before the kernel starts. -/
def seen (c : Dev nD) : Set (SemLoc sig × HIx 1) := {p | (K (F := F)).lev (T c, p.1) p.2 ≤ 8}

/-- The kernel's proof data: the arrays as they stand at the start; after the body the two inputs that stay, and the
    block of `x` and of the result on the rows inside the array. -/
def dats (_ : Fin 1) (c : Dev nD) : Dat τ (Elt F) (HIx 1) ℕ UU ℕ cfg1 c where
  A w := A c (Proc.devRef .tc (Pipeline.arrRef cfg1.spec w))
  after w t := match w with
    | ⟨0, _⟩ => filled A c t zeros
    | ⟨1, _⟩ => bOf A c
    | ⟨2, _⟩ => cOf A c
    | ⟨3, _⟩ => product A c t zeros
  Φ _ := iprop(emp)
  q _ := fullShare
  owed _ := 0
  recorded _ := seen (F := F) c

/-! ## What the body finds -/

theorem before_x (c : Dev nD) (t : Fin cfg1.N) (d) : (dats A 0 c).before (0 : Fin 4) t d = filled A c t d := by
  unfold Dat.before; rw [if_pos (fetch1_0 t)]; rfl

/-- The window of graph numbers is the whole array. -/
theorem block_b (c : Dev nD) (t : Fin cfg1.N) : (dats A 0 c).blockOf (1 : Fin 4) t = bOf A c := by
  funext j
  refine ((View.read_apply _ _).trans (cast_eq _ _)).trans (congrArg (bOf A c) (funext fun a => Fin.ext ?_))
  exact win1_1.rect_emb_val_of_index_zero t a (by obtain rfl : a = (0 : Fin 1) := Subsingleton.elim (α := Fin 1) _ _; rfl) j

theorem block_c (c : Dev nD) (t : Fin cfg1.N) : (dats A 0 c).blockOf (2 : Fin 4) t = cOf A c := by
  funext j
  refine ((View.read_apply _ _).trans (cast_eq _ _)).trans (congrArg (cOf A c) (funext fun a => Fin.ext ?_))
  exact win1_2.rect_emb_val_of_index_zero t a (by fin_cases a <;> rfl) j

theorem before_b (c : Dev nD) (t : Fin cfg1.N) (d) : (dats A 0 c).before (1 : Fin 4) t d = bOf A c := by
  rw [(dats A 0 c).before_in_eq_fetched (1 : Fin 4) rfl (fun _ => rfl) (fun _ _ _ => rfl) (fun t => (block_b A c t).symm)]
  exact block_b A c t

theorem before_c (c : Dev nD) (t : Fin cfg1.N) (d) : (dats A 0 c).before (2 : Fin 4) t d = cOf A c := by
  rw [(dats A 0 c).before_in_eq_fetched (2 : Fin 4) rfl (fun _ => rfl) (fun _ _ _ => rfl) (fun t => (block_c A c t).symm)]
  exact block_c A c t

theorem before_o (c : Dev nD) (t : Fin cfg1.N) (d) : (dats A 0 c).before (3 : Fin 4) t d = d := by
  refine (dats A 0 c).before_out_reset (3 : Fin 4) rfl t ?_ d
  by_cases h : t.val = 0
  · exact .inl h
  · exact .inr ⟨h, flush1_3 _⟩

/-- On the rows inside the array the product does not depend on what filled the block out. -/
theorem product_fill (c : Dev nD) (t : Fin cfg1.N) (d : S4096x512.Idx → Elt F .f32) :
    win1_3.fill (grid1.coords t) (product A c t d) (win1_3.cut (grid1.coords t) (product A c t zeros)) = product A c t d := by
  have h : win1_3.cut (grid1.coords t) (product A c t zeros) = win1_3.cut (grid1.coords t) (product A c t d) := by
    funext j
    exact congrArg (fun y => FloatOps.mulf y (scaleAt A c t (win1_3.xinj (grid1.coords t) j)))
      ((win1_0.fill_xinj (grid1.coords t) zeros (rows A c t) j).trans (win1_0.fill_xinj (grid1.coords t) d (rows A c t) j).symm)
  rw [h, Window.fill_cut]

theorem body_obligation (c : Dev nD) : BodyObligationLoose (dats A 0 c) (defs₀ (F := F)) 𝒱₀ none Set.univ := fun t => by
  rw [bigSep_W1, bigSep_W1]
  simp only
  rw [show (dats A 0 c).Φ t.succ = (dats A 0 c).Φ t.castSucc from rfl,
    show (dats A 0 c).owesAt none t.succ = (dats A 0 c).owesAt none t.castSucc from rfl]
  iintro ⟨HΦ, Ho, ⟨%d0, H0⟩, ⟨%d1, H1⟩, ⟨%d2, H2⟩, ⟨%d3, H3⟩⟩
  rw [before_x A c t d0, before_b A c t d1, before_c A c t d2, before_o A c t d3]
  iapply (sound_body c Set.univ (grid1.coords t) (cfg1.slots t 0) (cfg1.slots t 1) (cfg1.slots t 2) (cfg1.slots t 3)
    (filled A c t d0) (bOf A c) (cOf A c) d3)
  isplitl [H0 H1 H2 H3]
  · isplitl [H0]; · iexact H0
    isplitl [H1]; · iexact H1
    isplitl [H2]; · iexact H2
    iexact H3
  iintro ⟨H0, H1, H2, H3⟩
  isplitl [HΦ]; · iexact HΦ
  isplitl [Ho]; · iexact Ho
  isplitl [H0]
  · iexists d0
    change _ ⊢ owns (c : Thread nD τ) (stage1_0 (cfg1.slots t 0)) fullShare (win1_0.fill (grid1.coords t) d0 (win1_0.cut (grid1.coords t) (win1_0.fill (grid1.coords t) zeros (rows A c t))))
    rw [Window.cut_fill]
    exact .rfl
  isplitl [H1]; · iexact H1
  isplitl [H2]; · iexact H2
  iexists product A c t d0
  change _ ⊢ owns (c : Thread nD τ) (stage1_3 (cfg1.slots t 3)) fullShare (win1_3.fill (grid1.coords t) (product A c t d0) (win1_3.cut (grid1.coords t) (product A c t zeros)))
  rw [product_fill]
  exact .rfl

/-! ## The result array -/

/-- Every row of `x` times its scale: row `r` is row `r % 4096` of block `r / 4096`. -/
def scaled (X : S100000x512.Idx → Elt F .f32) (B : S102400.Idx → Elt F .i32) (C : S32x128.Idx → Elt F .i32) :
    S100000x512.Idx → Elt F .f32 := fun i =>
  FloatOps.mulf (X i) (blockScale (F := F) C (numbers B ((i 0).val / 4096))
    (fun | 0 => ⟨(i 0).val % 4096, Nat.mod_lt _ (by decide)⟩ | 1 => i 1))

/-- Block `t`'s index is its point. -/
theorem index_rows (i : grid1.Coords) : win1_3.indexMap i 0 = (i 0).val := by
  have h : (i 0).val < 25 := (i 0).isLt
  change (BitVec.ofNat 32 (i 0).val).toNat = _
  rw [BitVec.toNat_ofNat]
  exact Nat.mod_eq_of_lt (by omega)

/-- Where a block's row lies in the array. -/
theorem row_place (t : Fin cfg1.N) (j : (win1_3.xblock (grid1.coords t)).Idx) :
    ((win1_3.rect t).emb j 0 : Nat) = (grid1.coords t 0).val * 4096 + (j 0).val := by
  rw [win1_3.rect_emb_val t j 0]
  exact congrArg (fun n : ℕ => n * 4096 + (j 0).val) (index_rows (grid1.coords t))

theorem lane_place (t : Fin cfg1.N) (j : (win1_3.xblock (grid1.coords t)).Idx) :
    ((win1_3.rect t).emb j 1 : Nat) = (j 1).val :=
  win1_3.rect_emb_val_of_index_zero t 1 rfl j

theorem flushed_eq (c : Dev nD) (t : Fin cfg1.N) :
    (dats A 0 c).flushed (3 : Fin 4) t = (win1_3.blk t).view.read (Elt F) (scaled (F := F) (xOf A c) (bOf A c) (cOf A c)) := by
  funext j
  refine Eq.trans ?_ ((View.read_apply _ _).trans (cast_eq _ _)).symm
  have h0 := row_place t j
  have h1 := lane_place t j
  have hj : (j 0).val < 4096 := Nat.lt_of_lt_of_le (j 0).isLt (win1_3.xsize_le (grid1.coords t) 0)
  have hq : ((win1_3.rect t).emb j 0 : Nat) / 4096 = (grid1.coords t 0).val := by rw [h0]; omega
  have hr : ((win1_3.rect t).emb j 0 : Nat) % 4096 = (j 0).val := by rw [h0]; omega
  change FloatOps.mulf (win1_0.fill (grid1.coords t) zeros (rows A c t) (win1_0.xinj (grid1.coords t) j))
      (blockScale (F := F) (cOf A c) (numbers (bOf A c) (grid1.coords t 0).val) (win1_3.xinj (grid1.coords t) j))
    = FloatOps.mulf (xOf A c ((win1_3.rect t).emb j))
        (blockScale (F := F) (cOf A c) (numbers (bOf A c) (((win1_3.rect t).emb j 0 : Nat) / 4096))
          (fun | 0 => ⟨((win1_3.rect t).emb j 0 : Nat) % 4096, Nat.mod_lt _ (by decide)⟩ | 1 => (win1_3.rect t).emb j 1))
  refine congrArg₂ FloatOps.mulf ?_ ?_
  · refine (win1_0.fill_xinj (grid1.coords t) zeros (rows A c t) j).trans ?_
    exact (View.read_apply _ _).trans (cast_eq _ _)
  · rw [hq]
    refine congrArg _ (funext fun a => Fin.ext ?_)
    match a with
    | ⟨0, _⟩ => exact hr.symm
    | ⟨1, _⟩ => exact h1.symm

/-- Every element lies in the block of its row. -/
theorem covered (i : S100000x512.Idx) : ∃ t : Fin cfg1.N, i ∈ (win1_3.blk t).view.set := by
  have hi : (i 0).val < 100000 := (i 0).isLt
  have hi1 : (i 1).val < 512 := (i 1).isLt
  obtain ⟨t, ht⟩ := Pipeline.Grid.coords_surjective grid1 (fun | 0 => ⟨(i 0).val / 4096, by change _ < 25; omega⟩)
  have h0 : (grid1.coords t 0).val = (i 0).val / 4096 := by rw [ht]
  refine ⟨t, ?_⟩
  show i ∈ ((View.whole main_v2).slice (win1_3.rect t)).set
  rw [View.set_slice_whole, Rect.mem_set_unit]
  have e0 : win1_3.indexMap (grid1.coords t) 0 = (grid1.coords t 0).val := index_rows _
  have e1 : win1_3.indexMap (grid1.coords t) 1 = 0 := rfl
  have x0 := win1_3.xsize_eq_or_end rfl (grid1.coords t) 0
  have x1 := win1_3.xsize_eq_or_end rfl (grid1.coords t) 1
  have z0 : win1_3.size 0 = 4096 := rfl
  have z1 : win1_3.size 1 = 512 := rfl
  have w0 : win1_3.shape.size 0 = 100000 := rfl
  have w1 : win1_3.shape.size 1 = 512 := rfl
  rw [e0, h0, z0, w0] at x0
  rw [e1, z1, w1] at x1
  have m0 : win1_3.indexMap (grid1.coords t) 0 * win1_3.size 0 ≤ (i 0).val
      ∧ (i 0).val < win1_3.indexMap (grid1.coords t) 0 * win1_3.size 0 + win1_3.xsize (grid1.coords t) 0 := by
    rw [e0, h0, z0]
    generalize win1_3.xsize (grid1.coords t) 0 = n at x0 ⊢
    omega
  have m1 : win1_3.indexMap (grid1.coords t) 1 * win1_3.size 1 ≤ (i 1).val
      ∧ (i 1).val < win1_3.indexMap (grid1.coords t) 1 * win1_3.size 1 + win1_3.xsize (grid1.coords t) 1 := by
    rw [e1, z1]
    generalize win1_3.xsize (grid1.coords t) 1 = n at x1 ⊢
    omega
  intro a
  match a with
  | ⟨0, _⟩ => exact m0
  | ⟨1, _⟩ => exact m1

/-- The result array at the end. -/
theorem final_o (c : Dev nD) : (dats A 0 c).arrAt (3 : Fin 4) cfg1.N = scaled (F := F) (xOf A c) (bOf A c) (cOf A c) :=
  (dats A 0 c).arrAt_eq_of_cover (3 : Fin 4) _ (fun t _ => flushed_eq A c t) fun i =>
    let ⟨t, h⟩ := covered i; ⟨t, flush1_3 t, h⟩

/-- The inputs stay. -/
theorem final_x (c : Dev nD) : (dats A 0 c).arrAt (0 : Fin 4) cfg1.N = xOf A c := (dats A 0 c).arrAt_in (0 : Fin 4) rfl _
theorem final_b (c : Dev nD) : (dats A 0 c).arrAt (1 : Fin 4) cfg1.N = bOf A c := (dats A 0 c).arrAt_in (1 : Fin 4) rfl _
theorem final_c (c : Dev nD) : (dats A 0 c).arrAt (2 : Fin 4) cfg1.N = cOf A c := (dats A 0 c).arrAt_in (2 : Fin 4) rfl _

end Cert.Proof.Run
-- ==== Proof.Region.lean ====
/-
  The scaling kernel as one step of the program: from the arrays as they stand to the result array holding every row of
  `x` times its scale.
-/
module

public import proofs.«01_k».proof.Proof.Grid
public import proofs.«01_k».proof.Proof.Gen.KernelIdeal.Launch
public import Idealize.ShloMosaic.Lib.Pipeline.RegionArrays
public import Idealize.ShloMosaic.Lib.SparseCore.Quiescent
public import Idealize.ShloMosaic.Lib.StableHlo.Run

@[expose] public section

noncomputable section

namespace Cert.Proof.Run

open Cert.KernelIdeal Cert.KernelIdeal.Gen Cert.Proof.Search

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligationLoose)

variable {F : FTy → Type} [FloatOps F]

local notation "𝕄" => MT nD τ sig (HIx 1) (Elt F) ℕ UU ℕ

variable (A : Dev nD → Valuation τ sig (Elt F))

/-- The only table contents: none. -/
abbrev adm : (p : Fin 1) → (pcfgs (F := F) p).Adm := fun p => (cfgs p).toPCfg_adm

/-- The kernel's layout facts. -/
theorem kit : Pipeline.PLaunchFacts (nD := nD) (τ := τ) (pcfgs (F := F)) 0 := launch1.toP

/-- What the core has waited for so far, none of it above the kernel's own waits' reach. -/
abbrev settled (c : Dev nD) : sProp 𝕄 :=
  iprop(∃ W, ⌜(K (F := F)).WBelow (T c) W 8⌝ ∗ owes (T c) (0 : CellTallies nD τ sig (HIx 1)) W)

/-- The arrays after the kernel. -/
def after (c : Dev nD) : Valuation τ sig (Elt F) :=
  Function.update (A c) (Proc.devRef .tc main_v2) (scaled (F := F) (xOf A c) (bOf A c) (cOf A c))

theorem arrays_at (c : Dev nD) (G : (w : Fin cfg1.W) → Buf (Elt F) ((cfg1.win w).arr.view.loc (c : Thread nD τ)))
    (W : Valuation τ sig (Elt F)) (hG : ∀ w, G w = W (Proc.devRef .tc (Pipeline.arrRef cfg1.spec w))) :
    ((dats A 0 c).arrays G : sProp 𝕄) = StableHlo.held (c : Thread nD τ) (Pipeline.arrRefs cfg1.spec) W :=
  Pipeline.arrays_held (pcfgs (F := F)) adm (dats A) 0 (kit (F := F)) c (fun w => by unfold Dat.share; split <;> rfl) G W hG

theorem entry_arrays (c : Dev nD) (w : Fin 4) : (dats A 0 c).arrAt w 0 = A c (Proc.devRef .tc (Pipeline.arrRef cfg1.spec w)) := rfl

theorem exit_arrays (c : Dev nD) (w : Fin 4) : (dats A 0 c).arrAt w cfg1.N = after A c (Proc.devRef .tc (Pipeline.arrRef cfg1.spec w)) := by
  unfold after
  match w with
  | ⟨0, _⟩ => exact (final_x A c).trans (Function.update_of_ne (show Proc.devRef .tc main_arg0 ≠ Proc.devRef .tc main_v2 by decide) _ _).symm
  | ⟨1, _⟩ => exact (final_b A c).trans (Function.update_of_ne (show Proc.devRef .tc main_v1 ≠ Proc.devRef .tc main_v2 by decide) _ _).symm
  | ⟨2, _⟩ => exact (final_c A c).trans (Function.update_of_ne (show Proc.devRef .tc main_v0 ≠ Proc.devRef .tc main_v2 by decide) _ _).symm
  | ⟨3, _⟩ => exact (final_o A c).trans (Function.update_self (Proc.devRef .tc main_v2) (scaled (F := F) (xOf A c) (bOf A c) (cOf A c)) (A c)).symm

/-- The step. -/
def region : Pipeline.RegionSeg (pcfgs (F := F)) adm (dats A) none (defs₀ (F := F)) 𝒱₀ (K (F := F)).L (K (F := F)).lev 0 where
  win := (kit (F := F)).to₀.win
  block_pos := (kit (F := F)).to₀.block_pos
  stage_whole := (kit (F := F)).to₀.stage_whole
  K := PEmpty
  osem k := k.elim
  ho := Pipeline.OwnSemFacts.none _
  hbody := body_obligation A
  hwaits c := (show _ ⊢ (iprop(emp) : sProp 𝕄) from by iintro -; iempintro).trans
    (Pipeline.cellsWaits_of_owed_zero _ (dats A) none 0 c fun _ => rfl)
  pre c := iprop(StableHlo.held (c : Thread nD τ) (Pipeline.arrRefs cfg1.spec) (A c) ∗ settled c)
  post c := iprop(StableHlo.held (c : Thread nD τ) (Pipeline.arrRefs cfg1.spec) (after A c) ∗ settled c)
  X _ := iprop(emp)
  Y _ := iprop(emp)
  Z _ := iprop(emp)
  hentry c := by
    rw [Pipeline.ownSems0_none, Pipeline.prefHeld_of_none _ rfl, ← arrays_at A c _ (A c) (entry_arrays A c)]
    iintro ⟨⟨Ha, %W, %hW, HO⟩, -, -⟩
    imodintro
    isplitl [Ha]; · iexact Ha
    isplitr; · iempintro
    isplitl [HO]
    · unfold Dat.owesAt Pipeline.owesWithin Dat.bound
      iexists W; isplitr; · ipureintro; exact fun p hp => Or.inl (hW p hp)
      iexact HO
    isplitr <;> iempintro
  hin c := (show _ ⊢ (iprop(emp) : sProp 𝕄) from by iintro -; iempintro)
  hout c := by
    rw [Pipeline.ownSems0_none]
    change (iprop(emp) : sProp 𝕄) ⊢ iprop(emp ∗ _ ∗ Pipeline.scopedRest spec1 c)
    rw [scopedRest1_eq]
    iintro -
    isplitr; · iempintro
    isplitr <;> iempintro
  hexit c := by
    rw [show ((dats A 0 c).arrays ((dats A 0 c).arrAt · (Pipeline.pin (pcfgs (F := F)) adm 0).N) : sProp 𝕄)
      = _ from arrays_at A c _ (after A c) (exit_arrays A c)]
    iintro ⟨Ha, HO, -, -⟩
    imodintro
    isplitl [Ha]; · iexact Ha
    unfold Dat.owesAt Pipeline.owesWithin Dat.bound
    icases HO with ⟨%W, %hW, HO⟩
    iexists W
    isplitr
    · ipureintro
      intro p hp
      rcases hW hp with h | ⟨w, s, rfl⟩
      · exact h
      · exact Nat.zero_le _
    iexact HO

end Cert.Proof.Run
-- ==== Proof.Loops.lean ====
/-
  The search loops of one tile: twelve halvings for thirty-two graph numbers at a time, four times over, over a scratch
  holding the tile's chunk of the graph ids; what they leave in the result scratch.
-/
module

public import proofs.«01_k».proof.Proof.Setup

@[expose] public section

noncomputable section

namespace Cert.Proof.Run

open Cert.KernelIdeal Cert.KernelIdeal.Gen Cert.Proof.Search

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Loops

variable (d : Dev nD) (L : grid0.Coords)

abbrev cV (L : grid0.Coords) : Fin τ.nSC := (L 0).castLE hcore0
abbrev jV (L : grid0.Coords) : Fin τ.nSub := (L 1).castLE hsub0

/-! ## The search loops -/

/-- The chunk scratch holds tile `w`'s chunk of the ids. -/
def ChunkHolds (b : S100000.Idx → BitVec 32) (w : ℕ) (f : S3128.Idx → BitVec 32) : Prop :=
  ∀ j : S3128.Idx, (j 0).val < chunkLen w → f j = idAt b (3128 * w + (j 0).val)

/-- The lanes' intervals after `k` halvings, lane `l` searching for graph `16 * t + base + l`. -/
def Lanes (b : S100000.Idx → BitVec 32) (w base k : ℕ) (lo hi : IVec S16 32) : Prop :=
  ∀ l : S16.Idx, lo l = BitVec.ofNat 32 (state b w ((base + (l 0).val : ℕ) : ℤ) k).1 ∧ hi l = BitVec.ofNat 32 (state b w ((base + (l 0).val : ℕ) : ℤ) k).2

/-- The result scratch after `t` trips: the entries written so far hold what their search found. -/
def RowHolds (b : S100000.Idx → BitVec 32) (w t : ℕ) (f : S128.Idx → BitVec 32) : Prop :=
  ∀ g : S128.Idx, (g 0).val % 64 < 16 * t → f g = BitVec.ofNat 32 (found b w (g 0).val)

abbrev chM : Memref sig .scVector .vmem S3128 .i32 := Memref.whole cc0_scratch0

theorem lanes_zero (b : S100000.Idx → BitVec 32) (base : ℕ) : Lanes b (tile L) base 0 k0_pay3 (k0_pay4 L) := by
  intro l
  refine ⟨rfl, ?_⟩
  show IntOp.muli 1#32 (Scalar.select _ _ _) = _
  rw [len_word]
  exact BitVec.one_mul _

/-- Where a lane's index vector points. -/
theorem lanes_idx {b : S100000.Idx → BitVec 32} {base k : ℕ} {lo hi : IVec S16 32} (h : Lanes b (tile L) base k lo hi) (l : S16.Idx) :
    (k0_pay7 L lo hi l).toNat = min (((state b (tile L) ((base + (l 0).val : ℕ) : ℤ) k).1 + (state b (tile L) ((base + (l 0).val : ℕ) : ℤ) k).2) / 2) (chunkLen (tile L) - 1)
      ∧ (k0_pay7 L lo hi l).toNat < chunkLen (tile L) := by
  have hi' := state_inv b (tile L) ((base + (l 0).val : ℕ) : ℤ) k
  have e := lane_index hi' (h l).1 (h l).2
  have := index_lt (a := ((state b (tile L) ((base + (l 0).val : ℕ) : ℤ) k).1 + (state b (tile L) ((base + (l 0).val : ℕ) : ℤ) k).2) / 2) (chunkLen_pos (tile L)) (chunkLen_le (tile L))
  rw [e]
  exact ⟨this.1, by rw [this.1]; exact this.2⟩

theorem lanes_chk {b : S100000.Idx → BitVec 32} {base k : ℕ} {lo hi : IVec S16 32} (h : Lanes b (tile L) base k lo hi) : k0_chk1 (k0_pay7 L lo hi) := by
  intro a x
  have ha : a = 0 := Subsingleton.elim _ _
  subst ha
  exact lt_of_lt_of_le (lanes_idx L h x).2 (chunkLen_le _)

/-- The word a lane reads. -/
theorem lanes_read {b : S100000.Idx → BitVec 32} {base k : ℕ} {lo hi : IVec S16 32} (h : Lanes b (tile L) base k lo hi)
    {f : S3128.Idx → BitVec 32} (hf : ChunkHolds b (tile L) f) (hb : ∀ a x, ((![k0_pay7 L lo hi] : Fin 1 → IVec S16 32) a x).toNat < S3128.size a) (l : S16.Idx) :
    ((loadIdx (F := F) (e := .i32) (s := S3128) f ![k0_pay7 L lo hi] hb : S16.Idx → BitVec 32) l).toInt
      = chunkId b (tile L) (min (((state b (tile L) ((base + (l 0).val : ℕ) : ℤ) k).1 + (state b (tile L) ((base + (l 0).val : ℕ) : ℤ) k).2) / 2) (chunkLen (tile L) - 1)) := by
  have hx := lanes_idx L h l
  show (f (idxAt ![k0_pay7 L lo hi] hb l)).toInt = _
  have e0 : ((idxAt ![k0_pay7 L lo hi] hb l : S3128.Idx) 0).val = (k0_pay7 L lo hi l).toNat := rfl
  rw [hf _ (by rw [e0]; exact hx.2), e0, hx.1]
  rfl

/-- One halving of every lane. -/
theorem lanes_succ {b : S100000.Idx → BitVec 32} {base k : ℕ} {lo hi g : IVec S16 32} (h : Lanes b (tile L) base k lo hi)
    (hg : ∀ l, (g l).toInt = ((base + (l 0).val : ℕ) : ℤ))
    {f : S3128.Idx → BitVec 32} (hf : ChunkHolds b (tile L) f) (hb : ∀ a x, ((![k0_pay7 L lo hi] : Fin 1 → IVec S16 32) a x).toNat < S3128.size a) {v : IVec S16 32}
    (hv : v = loadIdx (F := F) (e := .i32) (s := S3128) f ![k0_pay7 L lo hi] hb) :
    Lanes b (tile L) base (k + 1)
      (select (andi (cmpi .slt lo hi) (cmpi .sle v g)) (addi (shrsi (addi lo hi) (broadcast S16 1#32)) (broadcast S16 1#32)) lo)
      (select (andi (cmpi .slt lo hi) (cmpi .sgt v g)) (shrsi (addi lo hi) (broadcast S16 1#32)) hi) := by
  subst hv
  intro l
  rw [state_succ]
  exact ⟨lane_lo (chunkLen_le _) (state_inv ..) (h l).1 (h l).2 (hg l) (lanes_read L h hf hb l),
    lane_hi (chunkLen_le _) (state_inv ..) (h l).1 (h l).2 (hg l) (lanes_read L h hf hb l)⟩

/-- What the gather reads of a scratch holding `f`, in the two spellings. -/
theorem chunk_read (f : S3128.Idx → BitVec 32) (ix : Fin 1 → IVec S16 32) (h h') :
    (loadIdx (F := F) (e := .i32) (s := S3128) (((Memref.whole cc0_scratch0 : Memref sig .scVector .vmem S3128 .i32).access (.whole S3128)).read (Elt F) f) ix h : IVec S16 32)
      = loadIdx (F := F) (e := .i32) (s := S3128) f ix h' := by
  funext l
  refine congrArg f (funext fun a => Fin.ext ?_)
  show 0 + 1 * _ = _
  rw [Nat.zero_add, Nat.one_mul]

/-- What holds between halvings. -/
def innerInv (b : S100000.Idx → BitVec 32) (fc : S3128.Idx → BitVec 32) (t k : ℕ) (acc : IVec S16 32 × IVec S16 32 × IVec S16 32 × IVec S16 32) : sProp 𝕄 :=
  iprop(⌜Lanes b (tile L) (16 * t) k acc.1 acc.2.1 ∧ Lanes b (tile L) (16 * t + 64) k acc.2.2.1 acc.2.2.2⌝
    ∗ (chM.view.loc (V d (cV L) (jV L)) ↦{fullShare} (fc : Buf (Elt F) (chM.view.loc (V d (cV L) (jV L))))))

theorem inner_step (b : S100000.Idx → BitVec 32) {fc : S3128.Idx → BitVec 32} (hf : ChunkHolds b (tile L) fc) (t : Fin k0_t1_loop.trips) (k : Fin k0_t2_loop.trips)
    (acc : IVec S16 32 × IVec S16 32 × IVec S16 32 × IVec S16 32) :
    innerInv (F := F) d L b fc t.val k.val acc
      ⊢ wp frame (wpE (defs₀ (F := F)) 𝒱₀ (V d (cV L) (jV L)) none) Set.univ
          (k0_t2_body L (Memref.whole main_arg1_scv : Memref sig .scVector .hbm S100000 .i32) (Memref.isWhole_whole _) (Memref.whole main_v0_scv : Memref sig .scVector .hbm S32x128 .i32) (Memref.isWhole_whole _) (Memref.whole cc0_scratch0 : Memref sig .scVector .vmem S3128 .i32) (Memref.isWhole_whole _) (Memref.whole cc0_scratch1 : Memref sig .scVector .vmem S128 .i32) (Memref.isWhole_whole _)
            cc0_scoped0 cc0_scoped1 cc0_scoped2 t k acc)
          (innerInv (F := F) d L b fc t.val (k.val + 1)) := by
  obtain ⟨lo0, hi0, lo1, hi1⟩ := acc
  unfold innerInv k0_t2_body
  simp only [Prog.lift, Prog.bind_op, Prog.bind_ret, Prog.pure_eq_ret]
  iintro ⟨%hl, Hc⟩
  obtain ⟨h0, h1⟩ := hl
  rw [wp_assume_of _ _ _ _ (lanes_chk L h0)]
  iapply (SparseCore.wp_vectorLoadIdx 𝒱₀ (V d (cV L) (jV L)) none Set.univ (base := (Memref.whole cc0_scratch0 : Memref sig .scVector .vmem S3128 .i32)) (S := Finset.univ) (q := fullShare) (Finset.subset_univ _)) $$ Hc; iintro Hc
  rw [wp_assume_of _ _ _ _ (show k0_chk2 (k0_pay12 L lo1 hi1) from lanes_chk L h1)]
  iapply (SparseCore.wp_vectorLoadIdx 𝒱₀ (V d (cV L) (jV L)) none Set.univ (base := (Memref.whole cc0_scratch0 : Memref sig .scVector .vmem S3128 .i32)) (S := Finset.univ) (q := fullShare) (Finset.subset_univ _)) $$ Hc; iintro Hc
  rw [wp_ret]
  imodintro
  isplitr
  · ipureintro
    exact ⟨lanes_succ (F := F) L h0 (graph_first t) hf (lanes_chk L h0) (chunk_read ..), lanes_succ (F := F) L h1 (graph_second t) hf (lanes_chk L h1) (chunk_read ..)⟩
  · iexact Hc

/-- The two pieces of a trip, over a row holding what the trips before found. -/
theorem row_succ {b : S100000.Idx → BitVec 32} {t : Fin k0_t1_loop.trips} {lo0 lo1 hi0 hi1 : IVec S16 32}
    (h0 : Lanes b (tile L) (16 * t.val) 12 lo0 hi0) (h1 : Lanes b (tile L) (16 * t.val + 64) 12 lo1 hi1)
    {f : S128.Idx → BitVec 32} (hf : RowHolds b (tile L) t.val f) :
    RowHolds b (tile L) (t.val + 1) ((Memref.whole cc0_scratch1 : Memref sig .scVector .vmem S128 .i32).view.writes (Elt F) f
      [⟨Rect.unit (s := S128) (k0_off3 t) S16.size (k0_off3_inb t), lo1⟩, ⟨Rect.unit (s := S128) (k0_off2 t) S16.size (k0_off2_inb t), lo0⟩]) := by
  have ht : t.val < 4 := t.isLt
  have o2 : k0_off2 t 0 = 16 * t.val := by rw [k0_off2_eq]; rfl
  have o3 : k0_off3 t 0 = 16 * t.val + 64 := by rw [k0_off3_eq]; rfl
  intro g hg
  have hg' : (g 0).val < 128 := (g 0).isLt
  by_cases a3 : 16 * t.val + 64 ≤ (g 0).val ∧ (g 0).val < 16 * t.val + 80
  · refine (View.read_writes_cons_hit_of_coords (Val := Elt F) (Memref.whole cc0_scratch1 : Memref sig .scVector .vmem S128 .i32).view f _ _ _ (fun | 0 => ⟨(g 0).val - (16 * t.val + 64), by show _ < 16; omega⟩) g ?_).trans ?_
    · intro a
      obtain rfl : a = (0 : Fin 1) := Subsingleton.elim (α := Fin 1) _ _
      show (g 0).val = k0_off3 t 0 + 1 * ((g 0).val - (16 * t.val + 64))
      omega
    · rw [(h1 _).1]
      show BitVec.ofNat 32 (state b (tile L) ((16 * t.val + 64 + ((g 0).val - (16 * t.val + 64)) : ℕ) : ℤ) 12).1 = _
      rw [show 16 * t.val + 64 + ((g 0).val - (16 * t.val + 64)) = (g 0).val by omega]; rfl
  · refine (View.read_writes_cons_miss_of_axis (Val := Elt F) (Memref.whole cc0_scratch1 : Memref sig .scVector .vmem S128 .i32).view f _ _ g 0 (16 * t.val + 64) 16 o3 rfl rfl (by omega)).trans ?_
    by_cases a2 : 16 * t.val ≤ (g 0).val ∧ (g 0).val < 16 * t.val + 16
    · refine (View.read_writes_cons_hit_of_coords (Val := Elt F) (Memref.whole cc0_scratch1 : Memref sig .scVector .vmem S128 .i32).view f _ _ _ (fun | 0 => ⟨(g 0).val - (16 * t.val), by show _ < 16; omega⟩) g ?_).trans ?_
      · intro a
        obtain rfl : a = (0 : Fin 1) := Subsingleton.elim (α := Fin 1) _ _
        show (g 0).val = k0_off2 t 0 + 1 * ((g 0).val - 16 * t.val)
        omega
      · rw [(h0 _).1]
        show BitVec.ofNat 32 (state b (tile L) ((16 * t.val + ((g 0).val - 16 * t.val) : ℕ) : ℤ) 12).1 = _
        rw [show 16 * t.val + ((g 0).val - 16 * t.val) = (g 0).val by omega]; rfl
    · refine (View.read_writes_cons_miss_of_axis (Val := Elt F) (Memref.whole cc0_scratch1 : Memref sig .scVector .vmem S128 .i32).view f _ _ g 0 (16 * t.val) 16 o2 rfl rfl (by omega)).trans ?_
      exact hf g (by omega)

/-- What holds between trips. -/
def outerInv (b : S100000.Idx → BitVec 32) (fc : S3128.Idx → BitVec 32) (t : ℕ) (_ : BitVec 32) : sProp 𝕄 :=
  iprop((chM.view.loc (V d (cV L) (jV L)) ↦{fullShare} (fc : Buf (Elt F) (chM.view.loc (V d (cV L) (jV L)))))
    ∗ ∃ fl : S128.Idx → BitVec 32, ⌜RowHolds b (tile L) t fl⌝
      ∗ ((Memref.whole cc0_scratch1 : Memref sig .scVector .vmem S128 .i32).view.loc (V d (cV L) (jV L)) ↦{fullShare} (fl : Buf (Elt F) ((Memref.whole cc0_scratch1 : Memref sig .scVector .vmem S128 .i32).view.loc (V d (cV L) (jV L))))))

theorem outer_step (b : S100000.Idx → BitVec 32) {fc : S3128.Idx → BitVec 32} (hf : ChunkHolds b (tile L) fc) (t : Fin k0_t1_loop.trips) (acc : BitVec 32) :
    outerInv (F := F) d L b fc t.val acc
      ⊢ wp frame (wpE (defs₀ (F := F)) 𝒱₀ (V d (cV L) (jV L)) none) Set.univ
          (k0_t1_body L (Memref.whole main_arg1_scv : Memref sig .scVector .hbm S100000 .i32) (Memref.isWhole_whole _) (Memref.whole main_v0_scv : Memref sig .scVector .hbm S32x128 .i32) (Memref.isWhole_whole _) (Memref.whole cc0_scratch0 : Memref sig .scVector .vmem S3128 .i32) (Memref.isWhole_whole _) (Memref.whole cc0_scratch1 : Memref sig .scVector .vmem S128 .i32) (Memref.isWhole_whole _)
            cc0_scoped0 cc0_scoped1 cc0_scoped2 t acc)
          (outerInv (F := F) d L b fc (t.val + 1)) := by
  unfold outerInv k0_t1_body
  iintro ⟨Hc, %fl, %hfl, Hl⟩
  iapply (Scf.wp_for_bind frame (wpE (defs₀ (F := F)) 𝒱₀ (V d (cV L) (jV L)) none) Set.univ _ _ _ k0_t2_ok _ _ (innerInv (F := F) d L b fc t.val) (inner_step d L b hf t)) $$ [Hc]
  · unfold innerInv
    isplitr
    · ipureintro; exact ⟨lanes_zero L b _, lanes_zero L b _⟩
    · iexact Hc
  iintro %res HI
  unfold innerInv
  icases HI with ⟨%hr, Hc⟩
  obtain ⟨lo0, hi0, lo1, hi1⟩ := res
  sl_exec
  rw [wp_ret]
  imodintro
  isplitl [Hc]
  · iexact Hc
  iexists _
  isplitr
  · ipureintro; exact row_succ (F := F) L hr.1 hr.2 hfl
  · iexact Hl

/-- Both loops: from a scratch holding the chunk, the result scratch holds the row of counts. -/
theorem loops (b : S100000.Idx → BitVec 32) {α : Type}
    (kk : BitVec 32 → Prog (TpuEff nD τ sig (Elt F) Λ₀ (.scVector ((L 0).castLE hcore0) ((L 1).castLE hsub0))) α) (Q : α → sProp 𝕄)
    (fl : S128.Idx → BitVec 32) :
    iprop((∃ fc : S3128.Idx → BitVec 32, (chM.view.loc (V d (cV L) (jV L)) ↦{fullShare} (fc : Buf (Elt F) (chM.view.loc (V d (cV L) (jV L))))) ∗ ⌜ChunkHolds b (tile L) fc⌝)
      ∗ ((Memref.whole cc0_scratch1 : Memref sig .scVector .vmem S128 .i32).view.loc (V d (cV L) (jV L)) ↦{fullShare} (fl : Buf (Elt F) ((Memref.whole cc0_scratch1 : Memref sig .scVector .vmem S128 .i32).view.loc (V d (cV L) (jV L))))))
      ⊢ iprop((∀ fc r, outerInv (F := F) d L b fc 4 r -∗ wp frame (wpE (defs₀ (F := F)) 𝒱₀ (V d (cV L) (jV L)) none) Set.univ (kk r) Q)
        -∗ wp frame (wpE (defs₀ (F := F)) 𝒱₀ (V d (cV L) (jV L)) none) Set.univ
          (Scf.Loop.for k0_t1_loop k0_t1_ok 0#32 (k0_t1_body L (Memref.whole main_arg1_scv : Memref sig .scVector .hbm S100000 .i32) (Memref.isWhole_whole _) (Memref.whole main_v0_scv : Memref sig .scVector .hbm S32x128 .i32) (Memref.isWhole_whole _) (Memref.whole cc0_scratch0 : Memref sig .scVector .vmem S3128 .i32) (Memref.isWhole_whole _) (Memref.whole cc0_scratch1 : Memref sig .scVector .vmem S128 .i32) (Memref.isWhole_whole _)
            cc0_scoped0 cc0_scoped1 cc0_scoped2) >>= kk) Q) := by
  iintro ⟨⟨%fc, Hc, %hf⟩, Hl⟩ HK
  iapply (Scf.wp_for_bind frame (wpE (defs₀ (F := F)) 𝒱₀ (V d (cV L) (jV L)) none) Set.univ _ _ _ k0_t1_ok _ _ (outerInv (F := F) d L b fc) (outer_step d L b hf)) $$ [Hc Hl]
  · unfold outerInv
    isplitl [Hc]
    · iexact Hc
    iexists fl
    isplitr
    · ipureintro; intro g hg; omega
    · iexact Hl
  iintro %r HI
  iapply HK
  iexact HI

end Loops

end Cert.Proof.Run

end
-- ==== Proof.Rows.lean ====
/-
  What a tile's two copies leave: the chunk of the graph ids in its scratch, and the row of counts in the table.
-/
module

public import proofs.«01_k».proof.Proof.Loops
public import Idealize.ShloMosaic.Lib.Pipeline.Value

@[expose] public section

noncomputable section

namespace Cert.Proof.Run

open Cert.KernelIdeal Cert.KernelIdeal.Gen Cert.Proof.Search

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Rows

variable (L : grid0.Coords)

/-- The tile's row of the table as the tile addresses it. -/
abbrev rowK (L : grid0.Coords) : Memref sig .scVector .hbm S128 .i32 :=
  ((Memref.whole main_v0_scv : Memref sig .scVector .hbm S32x128 .i32).slice (Rect.unit (s := S32x128) (k0_off4 L) S1x128.size (k0_off4_inb L)) (fun _ => rfl)).squeeze S128 squeezes_S1x128_S128

/-- Where entry `g` of the row sits in the table. -/
theorem rowK_emb (g : S128.Idx) : ((rowK L).view.emb g 0).val = tile L ∧ ((rowK L).view.emb g 1).val = (g 0).val := by
  have e : (rowK L).view.emb g = shapeCast S128 (fun x : S1x128.Idx => ((Memref.whole main_v0_scv : Memref sig .scVector .hbm S32x128 .i32).slice (Rect.unit (s := S32x128) (k0_off4 L) S1x128.size (k0_off4_inb L)) (fun _ => rfl)).view.emb x)
      squeezes_S1x128_S128.numel_eq g := rfl
  rw [e, shapeCast_dropUnit_apply (n := 1) ![128]]
  constructor
  · show k0_off4 L 0 + 1 * 0 = _
    rw [k0_off4_eq]; rfl
  · show k0_off4 L 1 + 1 * (g 0).val = _
    rw [k0_off4_eq]; show 0 + 1 * _ = _; omega

theorem set_rowK : (rowK L).view.set = rowSet (tile L) := by
  refine Finset.ext fun (x : S32x128.Idx) => ?_
  have hx : (x 1).val < 128 := (x 1).isLt
  constructor
  · intro h
    obtain ⟨g, -, rfl⟩ := Finset.mem_map.mp h
    exact Finset.mem_filter.mpr ⟨Finset.mem_univ _, (rowK_emb L g).1⟩
  · intro h
    have h0 := (Finset.mem_filter.mp h).2
    refine Finset.mem_map.mpr ⟨(fun | 0 => ⟨(x 1).val, hx⟩ : S128.Idx), Finset.mem_univ _, ?_⟩
    have e := rowK_emb L (fun | 0 => ⟨(x 1).val, hx⟩ : S128.Idx)
    funext a
    apply Fin.ext
    match a with
    | 0 => exact e.1.trans h0.symm
    | 1 => exact e.2

/-- The row of counts, from the whole result scratch. -/
theorem row_done {b : S100000.Idx → BitVec 32} {fl : S128.Idx → BitVec 32} (h : RowHolds b (tile L) 4 fl) (g : S128.Idx) :
    fl g = BitVec.ofNat 32 (found b (tile L) (g 0).val) := h g (by omega)

/-- The row of the table after the write-out. -/
theorem row_written {b : S100000.Idx → BitVec 32} {w : S128.Idx → BitVec 32} (h : RowHolds b (tile L) 4 w) (f0 : S32x128.Idx → BitVec 32) :
    ∀ i ∈ rowSet (tile L), (rowK L).view.writes (Elt F) f0 [⟨Rect.whole S128, w⟩] i = counts b i := by
  intro i hi
  rw [← set_rowK] at hi
  obtain ⟨g, -, rfl⟩ := Finset.mem_map.mp hi
  have e := View.read_writes_cons_emb (Val := Elt F) (rowK L).view f0 (Rect.whole S128) w [] g
  have e2 : (Rect.whole S128).emb g = g := by
    funext a; apply Fin.ext; show 0 + 1 * _ = _; omega
  rw [e2] at e
  refine Eq.trans ?_ (e.trans ?_)
  · exact ((View.read_apply _ _).trans (cast_eq _ _)).symm
  · rw [row_done L h g]
    unfold counts
    have := rowK_emb L g
    show _ = BitVec.ofNat 32 (found b ((rowK L).view.emb g 0).val ((rowK L).view.emb g 1).val)
    rw [this.1, this.2]

theorem idAt_of (b : S100000.Idx → BitVec 32) {x : S100000.Idx} {k : ℕ} (h : (x 0).val = k) : idAt b k = b x := by
  subst h
  have hx : (x 0).val < 100000 := (x 0).isLt
  unfold idAt
  rw [dif_pos hx]
  refine congrArg b (funext fun a => Fin.ext ?_)
  obtain rfl : a = (0 : Fin 1) := Subsingleton.elim (α := Fin 1) _ _
  rfl

/-- A scratch read through its own view is its contents. -/
theorem chunk_scratch (f : S3128.Idx → BitVec 32) (j : S3128.Idx) :
    (Memref.whole cc0_scratch0 : Memref sig .scVector .vmem S3128 .i32).view.read (Elt F) f j = f j := by
  rw [View.read_apply]; rfl

theorem scratch_whole (f0 w : S3128.Idx → BitVec 32) (j : S3128.Idx) :
    (Memref.whole cc0_scratch0 : Memref sig .scVector .vmem S3128 .i32).view.read (Elt F)
      ((Memref.whole cc0_scratch0 : Memref sig .scVector .vmem S3128 .i32).view.write (Elt F) f0 w Finset.univ) j = w j := by
  rw [View.read_write_univ]

theorem scratch_part (f0 : S3128.Idx → BitVec 32) (w : S3032.Idx → BitVec 32) (j : S3128.Idx) (hj : (j 0).val < 3032) :
    (Memref.whole cc0_scratch0 : Memref sig .scVector .vmem S3128 .i32).view.read (Elt F)
      ((Memref.whole cc0_scratch0 : Memref sig .scVector .vmem S3128 .i32).view.writes (Elt F) f0 [⟨Rect.unit (s := S3128) ![0] ![3032] inb_S3128_S3032_0, w⟩]) j
      = w (fun | 0 => ⟨(j 0).val, hj⟩) := by
  apply View.read_writes_cons_hit_of_coords
  intro a
  obtain rfl : a = (0 : Fin 1) := Subsingleton.elim (α := Fin 1) _ _
  show (j 0).val = 0 + 1 * (j 0).val; omega

/-- The copied chunk, for every tile but the last. -/
theorem chunk_most (hw : tile L ≠ 31) (h1 : k0_cond1 L = 1#1) (b : S100000.Idx → BitVec 32) (f0 w : S3128.Idx → BitVec 32)
    (hwr : w = ((Memref.whole main_arg1_scv : Memref sig .scVector .hbm S100000 .i32).slice (Rect.unit (s := S100000) (k0_off1 L) S3128.size (k0_off1_inb L h1)) (fun _ => rfl)).view.read (Elt F) b) :
    ChunkHolds b (tile L) ((Memref.whole cc0_scratch0 : Memref sig .scVector .vmem S3128 .i32).view.write (Elt F) f0 w Finset.univ) := by
  intro j _
  have hj : (j 0).val < 3128 := (j 0).isLt
  have ht := tile_lt L
  refine (chunk_scratch (F := F) _ j).symm.trans ((scratch_whole (F := F) f0 w j).trans ?_)
  rw [hwr]
  refine ((View.read_apply _ _).trans (cast_eq _ _)).trans (idAt_of b ?_).symm
  show k0_off1 L 0 + 1 * (j 0).val = 3128 * tile L + (j 0).val
  rw [k0_off1_eq]
  show 6256 * (L 1).val + 3128 * (L 0).val + 1 * (j 0).val = _
  unfold tile; omega

/-- The copied chunk, for the last tile. -/
theorem chunk_last (hw : tile L = 31) (b : S100000.Idx → BitVec 32) (f0 : S3128.Idx → BitVec 32) (w : S3032.Idx → BitVec 32)
    (hwr : w = ((Memref.whole main_arg1_scv : Memref sig .scVector .hbm S100000 .i32).slice (Rect.unit (s := S100000) ![96968] S3032.size inb_S100000_S3032_96968) (fun _ => rfl)).view.read (Elt F) b) :
    ChunkHolds b (tile L) ((Memref.whole cc0_scratch0 : Memref sig .scVector .vmem S3128 .i32).view.writes (Elt F) f0 [⟨Rect.unit (s := S3128) ![0] ![3032] inb_S3128_S3032_0, w⟩]) := by
  intro j hj
  have hj : (j 0).val < 3032 := by rw [hw] at hj; exact hj
  refine (chunk_scratch (F := F) _ j).symm.trans ((scratch_part (F := F) f0 w j hj).trans ?_)
  rw [hwr]
  refine ((View.read_apply _ _).trans (cast_eq _ _)).trans (idAt_of b ?_).symm
  show (![96968] : Fin 1 → ℕ) 0 + 1 * (j 0).val = 3128 * tile L + (j 0).val
  rw [hw]
  show 96968 + 1 * (j 0).val = 96968 + (j 0).val
  omega

end Rows

end Cert.Proof.Run

end
-- ==== Proof.Tile.lean ====
/-
  What one tile does: it fetches its chunk of the graph ids, searches it for every graph number sixteen lanes at a time,
  and writes the row of counts it found.
-/
module

public import proofs.«01_k».proof.Proof.Rows

@[expose] public section

noncomputable section

namespace Cert.Proof.Run

open Cert.KernelIdeal Cert.KernelIdeal.Gen Cert.Proof.Search

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

section Tile

variable (d : Dev nD) (L : grid0.Coords)

theorem pts_rowK (f : Buf (Elt F) (nLoc d)) :
    ((rowK L).view.loc (V d (cV L) (jV L)) ↦[(rowK L).view.set]{fullShare} f : sProp 𝕄) = nPts d (rowSet (tile L)) f := by
  rw [set_rowK]
theorem pts_bV (q : PosShare TreeShare) :
    ((Memref.whole main_arg1_scv : Memref sig .scVector .hbm S100000 .i32).view.loc (V d (cV L) (jV L)) ↦{q} m (iLoc d) : sProp 𝕄) = iPts m d q := rfl
theorem pts_chV (f : Buf (Elt F) ((V d (cV L) (jV L)).loc cc0_scratch0)) :
    ((Memref.whole cc0_scratch0 : Memref sig .scVector .vmem S3128 .i32).view.loc (V d (cV L) (jV L)) ↦{fullShare} f : sProp 𝕄) = (V d (cV L) (jV L)).loc cc0_scratch0 ↦{fullShare} f := rfl
theorem pts_luV (f : Buf (Elt F) ((V d (cV L) (jV L)).loc cc0_scratch1)) :
    ((Memref.whole cc0_scratch1 : Memref sig .scVector .vmem S128 .i32).view.loc (V d (cV L) (jV L)) ↦{fullShare} f : sProp 𝕄) = (V d (cV L) (jV L)).loc cc0_scratch1 ↦{fullShare} f := rfl

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)
abbrev cCcell (d : Dev nD) (c : Fin τ.nSC) (i : Fin τ.nSub) : GSem nD τ sig := (V d c i, .dma cc0_scoped2.sem)

theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped2.sem : SemLoc sig).isScoped .scVector = true; decide⟩⟩⟩)]

/-- The two scratch buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

set_option maxHeartbeats 400000 in
theorem tile_body (hF : (K (F := F)).Facts) (q : PosShare TreeShare) (O : CellTallies nD τ sig (HIx 1)) (W : Waits sig (HIx 1)) (hO : ∀ g, O g none = 0) :
    iprop(levAts (K (F := F)).L (K (F := F)).lev ∗ emp
        ∗ (iPts m d q ∗ nPts d (rowSet (tile L)) (m (nLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L (Memref.whole main_arg1_scv : Memref sig .scVector .hbm S100000 .i32) (Memref.isWhole_whole _) (Memref.whole main_v0_scv : Memref sig .scVector .hbm S32x128 .i32) (Memref.isWhole_whole _) (Memref.whole cc0_scratch0 : Memref sig .scVector .vmem S3128 .i32) (Memref.isWhole_whole _) (Memref.whole cc0_scratch1 : Memref sig .scVector .vmem S128 .i32) (Memref.isWhole_whole _)
            cc0_scoped0 cc0_scoped1 cc0_scoped2)
          fun _ => iprop((iPts m d q ∗ nPts d (rowSet (tile L)) (counts (m (iLoc d))))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  by_cases hw : tile L = 31
  · have h1 : ¬ k0_cond1 L = 1#1 := fun h => (cond1_iff L).mp h hw
    have h2 := (cond2_iff L).mpr hw
    simp only [cc0_k_eq_skeleton]; unfold cc0_k_skel
    simp only [dif_neg h1, dif_pos h2]
    iintro ⟨#Hlv, -, ⟨Hi, Hn⟩, ⟨⟨%fc, Hc⟩, ⟨%fl, Hl⟩, Hbufs⟩, ⟨HsemA, HsemB, HsemC, Hsems⟩, HO⟩
    ihave Hmw := (show levAts (K (F := F)).L (K (F := F)).lev ⊢ Transfers.MayWaits (V d (cV L) (jV L)) (default : HIx 1) O from
      (K (F := F)).mayWaits_none (thr := V d (cV L) (jV L)) hO) $$ Hlv
    ihave Hi' := (Entails.of_eq (pts_bV (F := F) m d L _).symm) $$ Hi
    ihave Hn' := (Entails.of_eq (pts_rowK (F := F) d L _).symm) $$ Hn
    ihave Hc' := (Entails.of_eq (pts_chV (F := F) d L _).symm) $$ Hc
    ihave Hl' := (Entails.of_eq (pts_luV (F := F) d L _).symm) $$ Hl
    sl_exec
    iapply (loops (F := F) d L (m (iLoc d)) _ _ fl) $$ [Hc' Hl']
    · isplitl [Hc']
      · iexists _
        isplitl [Hc']
        · iexact Hc'
        · ipureintro; exact chunk_last (F := F) L hw (m (iLoc d)) fc _ rfl
      · iexact Hl'
    iintro %fc' %r HI
    unfold outerInv
    icases HI with ⟨Hc', %fl', %hfl', Hl'⟩
    sl_exec
    rw [wp_ret]
    imodintro
    isplitl [Hi' Hn']
    · isplitl [Hi']
      · iapply (Entails.of_eq (pts_bV (F := F) m d L _)); iexact Hi'
      · ihave Hn := (Entails.of_eq (pts_rowK (F := F) d L _)) $$ Hn'
        iapply (Entails.of_eq (pointsTo_congr (row_written (F := F) L (w := fl') hfl' (m (nLoc d)))))
        iexact Hn
    isplitl [Hc' Hl' Hbufs]
    · isplitl [Hc']
      · iexists _; iexact Hc'
      isplitl [Hl']
      · iexists _; iexact Hl'
      · iexact Hbufs
    isplitl [HsemA HsemB HsemC Hsems]
    · isplitl [HsemA]; · iexact HsemA
      isplitl [HsemB]; · iexact HsemB
      isplitl [HsemC]; · iexact HsemC
      iexact Hsems
    iexists _
    isplitr
    rotate_left
    · iexact HO
    · ipureintro; intro p hp
      rcases Finset.mem_insert.mp hp with hp | hp
      · exact .inr (by rw [hp]; rfl)
      rcases Finset.mem_insert.mp hp with hp | hp
      · exact .inr (by rw [hp]; rfl)
      · exact .inl hp
  · have h1 := (cond1_iff L).mpr hw
    have h2 := fun h => hw ((cond2_iff L).mp h)
    simp only [cc0_k_eq_skeleton]; unfold cc0_k_skel
    simp only [dif_pos h1, dif_neg h2]
    iintro ⟨#Hlv, -, ⟨Hi, Hn⟩, ⟨⟨%fc, Hc⟩, ⟨%fl, Hl⟩, Hbufs⟩, ⟨HsemA, HsemB, HsemC, Hsems⟩, HO⟩
    ihave Hmw := (show levAts (K (F := F)).L (K (F := F)).lev ⊢ Transfers.MayWaits (V d (cV L) (jV L)) (default : HIx 1) O from
      (K (F := F)).mayWaits_none (thr := V d (cV L) (jV L)) hO) $$ Hlv
    ihave Hi' := (Entails.of_eq (pts_bV (F := F) m d L _).symm) $$ Hi
    ihave Hn' := (Entails.of_eq (pts_rowK (F := F) d L _).symm) $$ Hn
    ihave Hc' := (Entails.of_eq (pts_chV (F := F) d L _).symm) $$ Hc
    ihave Hl' := (Entails.of_eq (pts_luV (F := F) d L _).symm) $$ Hl
    sl_exec
    iapply (loops (F := F) d L (m (iLoc d)) _ _ fl) $$ [Hc' Hl']
    · isplitl [Hc']
      · iexists _
        isplitl [Hc']
        · iexact Hc'
        · ipureintro; exact chunk_most (F := F) L hw h1 (m (iLoc d)) fc _ rfl
      · iexact Hl'
    iintro %fc' %r HI
    unfold outerInv
    icases HI with ⟨Hc', %fl', %hfl', Hl'⟩
    sl_exec
    rw [wp_ret]
    imodintro
    isplitl [Hi' Hn']
    · isplitl [Hi']
      · iapply (Entails.of_eq (pts_bV (F := F) m d L _)); iexact Hi'
      · ihave Hn := (Entails.of_eq (pts_rowK (F := F) d L _)) $$ Hn'
        iapply (Entails.of_eq (pointsTo_congr (row_written (F := F) L (w := fl') hfl' (m (nLoc d)))))
        iexact Hn
    isplitl [Hc' Hl' Hbufs]
    · isplitl [Hc']
      · iexists _; iexact Hc'
      isplitl [Hl']
      · iexists _; iexact Hl'
      · iexact Hbufs
    isplitl [HsemA HsemB HsemC Hsems]
    · isplitl [HsemA]; · iexact HsemA
      isplitl [HsemB]; · iexact HsemB
      isplitl [HsemC]; · iexact HsemC
      iexact Hsems
    iexists _
    isplitr
    rotate_left
    · iexact HO
    · ipureintro; intro p hp
      rcases Finset.mem_insert.mp hp with hp | hp
      · exact .inr (by rw [hp]; rfl)
      rcases Finset.mem_insert.mp hp with hp | hp
      · exact .inr (by rw [hp]; rfl)
      · exact .inl hp

end Tile

end Cert.Proof.Run

end
-- ==== Proof.Main.lean ====
/-
  The whole program: the tiles' call, the padding of the ids and the scaling kernel, from any launch memory to the
  result in closed form, the arguments kept and every semaphore at zero.
-/
module

public import proofs.«01_k».proof.Proof.Region
public import proofs.«01_k».proof.Proof.Tile
public import proofs.«01_k».proof.Proof.Gen.KernelIdeal.Launch
public import Idealize.ShloMosaic.Lib.Pipeline.RegionArrays
public import Idealize.ShloMosaic.Lib.SparseCore.Quiescent
public import Idealize.ShloMosaic.Lib.StableHlo.Run

@[expose] public section

noncomputable section

namespace Cert.Proof.Run

open Cert.KernelIdeal Cert.KernelIdeal.Gen Cert.Proof.Search

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligationLoose)

variable {F : FTy → Type} [FloatOps F]

local notation "𝕄" => MT nD τ sig (HIx 1) (Elt F) ℕ UU ℕ
variable (m : (ℓ : Loc nD τ sig) → Buf (Elt F) ℓ) (ρ : Dev nD → PrngReg)

/-! ## A tile's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          (Memref.whole main_arg1_scv) (Memref.isWhole_whole _) (Memref.whole main_v0_scv) (Memref.isWhole_whole _)
          (Memref.whole cc0_scratch0) (Memref.isWhole_whole _) (Memref.whole cc0_scratch1) (Memref.isWhole_whole _)
          cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF (tileShare (Fin.cast nCore_zero c) (Fin.cast nSub_zero i)) O W hO).trans
    (wp_mono frame _ _ fun _ => obl_post)

/-! ## The launch element -/

/-- The staging cells are distinct. -/
theorem cells_inj : Function.Injective (Pipeline.cellOf (nD := nD) (τ := τ) (Pipeline.pin (pcfgs (F := F)) adm)) :=
  (kit (F := F)).cellOf_inj adm

def u₀ : UU :=
  (initOf (K (F := F)).hsCells (K (F := F)).hsToks,
    (initOf (Pipeline.cells (Pipeline.pin (pcfgs (F := F)) adm) cells_inj) (Pipeline.launchToks (Pipeline.pin (pcfgs (F := F)) adm) cells_inj), 1))

/-- What the launch deals the scaling kernel's staging on one device. -/
abbrev Gh (d : Dev nD) : sProp 𝕄 :=
  iprop(Pipeline.cellsGhost (Pipeline.pin (pcfgs (F := F)) adm) EP 0 d ∗ Pipeline.toksInit (Pipeline.pin (pcfgs (F := F)) adm) EP 0 d)

theorem emp_all {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => Gh (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (Pipeline.pin (pcfgs (F := F)) adm) cells_inj) (Pipeline.launchToks (Pipeline.pin (pcfgs (F := F)) adm) cells_inj), 1) : UT)) $$ Hu
  icases H with ⟨HH, HT⟩
  ihave HT' := (own_pair_emb (embR : Emb UT 𝕄)
    (initOf (Pipeline.cells (Pipeline.pin (pcfgs (F := F)) adm) cells_inj) (Pipeline.launchToks (Pipeline.pin (pcfgs (F := F)) adm) cells_inj)) (1 : Counters)) $$ HT
  icases HT' with ⟨HP, -⟩
  ihave HP' := (Entails.of_eq (show (BI.own (((Emb.inl : Emb (UR sig nD τ) UT).trans (embR : Emb UT 𝕄)) (initOf (Pipeline.cells (Pipeline.pin (pcfgs (F := F)) adm) cells_inj)
    (Pipeline.launchToks (Pipeline.pin (pcfgs (F := F)) adm) cells_inj))) : sProp 𝕄) = BI.own ((EP : Emb (UR sig nD τ) 𝕄) _) from rfl)) $$ HP
  ihave HG := (Pipeline.fund_ghost (Pipeline.pin (pcfgs (F := F)) adm) (EP : Emb (UR sig nD τ) 𝕄) cells_inj) $$ HP'
  imod HG with ⟨Hc, Ht⟩
  imodintro
  isplitl [HH]; · iexact HH
  isplitl [Hc Ht]
  · unfold Gh
    rw [bigSep_sep']
    ihave Hc' := (Entails.of_eq (show (bigSep Finset.univ fun d : Dev nD => bigSep Finset.univ fun p : Fin 1 =>
        (Pipeline.cellsGhost (Pipeline.pin (pcfgs (F := F)) adm) EP p d : sProp 𝕄)) = bigSep Finset.univ fun d : Dev nD =>
          Pipeline.cellsGhost (Pipeline.pin (pcfgs (F := F)) adm) EP 0 d from
      bigSep_congr fun _ _ => bigSep_univ_of_subsingleton (0 : Fin 1))) $$ Hc
    ihave Ht' := (Entails.of_eq (show (bigSep Finset.univ fun d : Dev nD => bigSep Finset.univ fun p : Fin 1 =>
        (Pipeline.toksInit (Pipeline.pin (pcfgs (F := F)) adm) EP p d : sProp 𝕄)) = bigSep Finset.univ fun d : Dev nD =>
          Pipeline.toksInit (Pipeline.pin (pcfgs (F := F)) adm) EP 0 d from
      bigSep_congr fun _ _ => bigSep_univ_of_subsingleton (0 : Fin 1))) $$ Ht
    isplitl [Hc']; · iexact Hc'
    iexact Ht'
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emp_all]
  iempintro

/-! ## The arrays through the program -/

abbrev rx : DevRef τ sig := Proc.devRef .tc main_arg0
abbrev ri : DevRef τ sig := Proc.devRef .tc main_arg1
abbrev rn : DevRef τ sig := Proc.devRef .tc main_v0
abbrev rz : DevRef τ sig := Proc.devRef .tc main_c
abbrev rw' : DevRef τ sig := Proc.devRef .tc main_call0_v0
abbrev rb : DevRef τ sig := Proc.devRef .tc main_v1
abbrev ro : DevRef τ sig := Proc.devRef .tc main_v2

/-- @main's arrays. -/
def all : Finset (DevRef τ sig) := {rx, ri, rn, rz, rw', rb, ro}

theorem held_all (d : Dev nD) (V : Valuation τ sig (Elt F)) :
    (StableHlo.held (SparseCore.T d) all V : sProp 𝕄) = iprop(((d, rx) ↦{fullShare} V rx) ∗ ((d, ri) ↦{fullShare} V ri) ∗ ((d, rn) ↦{fullShare} V rn)
      ∗ ((d, rz) ↦{fullShare} V rz) ∗ ((d, rw') ↦{fullShare} V rw') ∗ ((d, rb) ↦{fullShare} V rb) ∗ (d, ro) ↦{fullShare} V ro) := by
  unfold StableHlo.held all
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1)
      ∗ ((SparseCore.T d).loc main_v0 ↦{fullShare} W main_v0) ∗ ((SparseCore.T d).loc main_c ↦{fullShare} W main_c) ∗ ((SparseCore.T d).loc main_call0_v0 ↦{fullShare} W main_call0_v0)
      ∗ ((SparseCore.T d).loc main_v1 ↦{fullShare} W main_v1) ∗ (SparseCore.T d).loc main_v2 ↦{fullShare} W main_v2) := by
  unfold unscopedBufs
  rw [show (Finset.univ.filter fun b : Ref sig .tc => ¬ b.isScoped) = {main_arg0, main_arg1, main_v0, main_c, main_call0_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- At launch; after the tiles' call; after the three operations that pad the ids; after the scaling kernel. -/
def V0 (d : Dev nD) : Valuation τ sig (Elt F) := fun b => m (d, b)
def V1 (d : Dev nD) : Valuation τ sig (Elt F) := Function.update (V0 m d) rn (counts (m (iLoc d)) : Buf (Elt F) (nLoc d))

abbrev op1 : HloOp τ sig (Elt F) := StableHlo.nullary main_c (constantI S_ 32 0#32)
abbrev op2 : HloOp τ sig (Elt F) := StableHlo.TRef.unary (StableHlo.TRef.of (T := ⟨S_, .i32⟩) main_c) (StableHlo.TRef.of (T := ⟨S_, .i32⟩) main_call0_v0) id
abbrev op3 : HloOp τ sig (Elt F) :=
  StableHlo.TRef.binary (StableHlo.TRef.of (T := ⟨S100000, .i32⟩) main_arg1) (StableHlo.TRef.of (T := ⟨S_, .i32⟩) main_call0_v0)
    (StableHlo.TRef.of (T := ⟨S102400, .i32⟩) main_v1) (fun x v => pad S102400 ![0] ![2400] ![0] x v pads_S100000_S102400_024000 h_S_)

def V2 (d : Dev nD) : Valuation τ sig (Elt F) := (op3 (F := F)).result ((op2 (F := F)).result ((op1 (F := F)).result (V1 m d)))

/-- The ids padded with zeros. -/
def padded (b : S100000.Idx → BitVec 32) : S102400.Idx → BitVec 32 :=
  pad S102400 ![0] ![2400] ![0] b (constantI S_ 32 0#32) pads_S100000_S102400_024000 h_S_

theorem V1_x (d : Dev nD) : V1 m d rx = m (xLoc d) := Function.update_of_ne (show rx ≠ rn by decide) _ _
theorem V1_i (d : Dev nD) : V1 m d ri = m (iLoc d) := Function.update_of_ne (show ri ≠ rn by decide) _ _
theorem V1_n (d : Dev nD) : V1 m d rn = (counts (m (iLoc d)) : Buf (Elt F) (nLoc d)) := Function.update_self _ _ _
theorem V1_z (d : Dev nD) : V1 m d rz = V0 m d rz := Function.update_of_ne (show rz ≠ rn by decide) _ _
theorem V1_w (d : Dev nD) : V1 m d rw' = V0 m d rw' := Function.update_of_ne (show rw' ≠ rn by decide) _ _
theorem V1_b (d : Dev nD) : V1 m d rb = V0 m d rb := Function.update_of_ne (show rb ≠ rn by decide) _ _
theorem V1_o (d : Dev nD) : V1 m d ro = V0 m d ro := Function.update_of_ne (show ro ≠ rn by decide) _ _

theorem V2_b (d : Dev nD) : V2 m d rb = padded (m (iLoc d)) := by
  unfold V2
  simp only [op1, op2, op3, StableHlo.TRef.binary, StableHlo.TRef.unary, StableHlo.TRef.toBuf, StableHlo.TRef.ofBuf, cast_eq]
  after_results_simp
  rfl
theorem V2_of (d : Dev nD) (b : DevRef τ sig) (h1 : b ≠ rz) (h2 : b ≠ rw') (h3 : b ≠ rb) : V2 m d b = V1 m d b := by
  unfold V2
  rw [HloOp.result_of_not_mem _ _ (show b ∉ ({rb} : Finset (DevRef τ sig)) by simpa using h3),
    HloOp.result_of_not_mem _ _ (show b ∉ ({rw'} : Finset (DevRef τ sig)) by simpa using h2),
    HloOp.result_of_not_mem _ _ (show b ∉ ({rz} : Finset (DevRef τ sig)) by simpa using h1)]
theorem V2_x (d : Dev nD) : V2 m d rx = m (xLoc d) := (V2_of m d rx (by decide) (by decide) (by decide)).trans (V1_x m d)
theorem V2_i (d : Dev nD) : V2 m d ri = m (iLoc d) := (V2_of m d ri (by decide) (by decide) (by decide)).trans (V1_i m d)
theorem V2_n (d : Dev nD) : V2 m d rn = (counts (m (iLoc d)) : Buf (Elt F) (nLoc d)) := (V2_of m d rn (by decide) (by decide) (by decide)).trans (V1_n m d)

/-- The result: each row of `x` times its scale. -/
def result (d : Dev nD) : S100000x512.Idx → Elt F .f32 := scaled (F := F) (m (xLoc d)) (padded (m (iLoc d))) (counts (m (iLoc d)))

theorem after_o (d : Dev nD) : after (F := F) (V2 m) d ro = result m d := by
  unfold after result
  rw [Function.update_self]
  show scaled (F := F) (V2 m d rx) (V2 m d rb) (V2 m d rn) = _
  rw [V2_x, V2_b, V2_n]
theorem after_x (d : Dev nD) : after (F := F) (V2 m) d rx = m (xLoc d) := (Function.update_of_ne (show rx ≠ ro by decide) _ _).trans (V2_x m d)

theorem arr_sub : Pipeline.arrRefs (τ := τ) cfg1.spec ⊆ all := by decide
theorem ri_rest : ri ∈ all \ Pipeline.arrRefs (τ := τ) cfg1.spec := by decide
theorem rx_arr : rx ∈ Pipeline.arrRefs (τ := τ) cfg1.spec := by decide
theorem ro_arr : ro ∈ (Pipeline.arrRefs (τ := τ) cfg1.spec).erase rx := by decide

theorem sub1 : (op1 (F := F)).bufs ⊆ all := show ({rz} : Finset (DevRef τ sig)) ⊆ all by decide
theorem sub2 : (op2 (F := F)).bufs ⊆ all := show ({rz, rw'} : Finset (DevRef τ sig)) ⊆ all by decide
theorem sub3 : (op3 (F := F)).bufs ⊆ all := show ({ri, rw', rb} : Finset (DevRef τ sig)) ⊆ all by decide

/-! ## @main -/

abbrev FIN (d : Dev nD) : sProp 𝕄 :=
  iprop((xLoc d ↦{fullShare} m (xLoc d)) ∗ (iLoc d ↦{fullShare} m (iLoc d)) ∗ (SparseCore.T d).loc main_v2 ↦{fullShare} (result m d : Buf (Elt F) ((SparseCore.T d).loc main_v2)))

/-- The arrays after the scaling kernel give what @main leaves. -/
theorem leaves (d : Dev nD) : (iprop(StableHlo.held (SparseCore.T d) (Pipeline.arrRefs cfg1.spec) (after (V2 m) d)
    ∗ StableHlo.held (SparseCore.T d) (all \ Pipeline.arrRefs cfg1.spec) (V2 m d)) : sProp 𝕄) ⊢ FIN m d := by
  have h1 : (StableHlo.held (SparseCore.T d) (all \ Pipeline.arrRefs cfg1.spec) (V2 m d) : sProp 𝕄) ⊢ ((d, ri) ↦{fullShare} V2 m d ri) :=
    bigSep_elim ri_rest
  have h2 : (StableHlo.held (SparseCore.T d) (Pipeline.arrRefs cfg1.spec) (after (V2 m) d) : sProp 𝕄)
      ⊢ iprop(((d, rx) ↦{fullShare} after (V2 m) d rx) ∗ (d, ro) ↦{fullShare} after (V2 m) d ro) := by
    unfold StableHlo.held
    rw [bigSep_erase rx_arr]
    exact sep_mono_right (bigSep_elim ro_arr)
  iintro ⟨Ha, Hr⟩
  ihave Hi := h1 $$ Hr
  ihave Ha' := h2 $$ Ha
  icases Ha' with ⟨Hx, Ho⟩
  rw [after_x, after_o, V2_i]
  isplitl [Hx]; · iexact Hx
  isplitl [Hi]; · iexact Hi
  iexact Ho

/-- After the one call nothing is owed. -/
theorem paid (d : Dev nD) : (K (F := F)).Otc d 1 = (0 : CellTallies nD τ sig (HIx 1)) :=
  (K (F := F)).Otc_end d le_rfl

set_option maxRecDepth 16384 in
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ Gh (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, fn_pad.body, wp_bind, wp_pure]
  iintro ⟨#Hctx, Hst, ⟨Hb, ⟨Hx, Hi, Hn, Hz, Hw, Hp, Ho⟩, Hts, -⟩, HG⟩
  iapply ((K (F := F)).wp_run (D (F := F)) 𝒱 (EH := EH) (P := P m) κ d 0) $$ [Hst Hx Hi Hn Hz Hw Hp Ho Hb Hts HG]
  isplitr; · iexact Hctx
  isplitl [Hst]; · iexact Hst
  isplitl [Hi Hn]
  · rw [st_all]
    isplitl [Hi]; · iexact Hi
    iexact Hn
  iintro ⟨Hst, Hdn⟩
  ihave Hdn' := (Entails.of_eq (dn_all m d)) $$ Hdn
  icases Hdn' with ⟨Hi, Hn⟩
  iapply (StableHlo.wp_hlo_within 𝒱 (SparseCore.T d) none Set.univ (op := op1) (S := all) sub1 (V := V1 m d)) $$ [Hb Hx Hi Hn Hz Hw Hp Ho]
  · isplitl [Hb]; · iexact Hb
    rw [held_all, V1_x, V1_i, V1_n, V1_z, V1_w, V1_b, V1_o]
    isplitl [Hx]; · iexact Hx
    isplitl [Hi]; · iexact Hi
    isplitl [Hn]; · iexact Hn
    isplitl [Hz]; · iexact Hz
    isplitl [Hw]; · iexact Hw
    isplitl [Hp]; · iexact Hp
    iexact Ho
  iintro ⟨Hb, Hh⟩
  rw [wp_ret]; imodintro
  iapply (StableHlo.wp_hlo_within 𝒱 (SparseCore.T d) none Set.univ (op := op2) (S := all) sub2 (V := (op1 (F := F)).result (V1 m d))) $$ [Hb Hh]
  · isplitl [Hb] <;> iassumption
  iintro ⟨Hb, Hh⟩
  rw [wp_ret]; imodintro
  iapply (StableHlo.wp_hlo_within 𝒱 (SparseCore.T d) none Set.univ (op := op3) (S := all) sub3 (V := (op2 (F := F)).result ((op1 (F := F)).result (V1 m d)))) $$ [Hb Hh]
  · isplitl [Hb] <;> iassumption
  iintro ⟨Hb, Hh⟩
  rw [wp_ret]; imodintro; imodintro
  ihave Hh' := (Entails.of_eq (show (StableHlo.held (SparseCore.T d) all ((op3 (F := F)).result ((op2 (F := F)).result ((op1 (F := F)).result (V1 m d)))) : sProp 𝕄)
      = iprop(StableHlo.held (SparseCore.T d) (Pipeline.arrRefs cfg1.spec) (V2 m d) ∗ StableHlo.held (SparseCore.T d) (all \ Pipeline.arrRefs cfg1.spec) (V2 m d)) from
    StableHlo.held_sub_split (SparseCore.T d) arr_sub (V2 m d))) $$ Hh
  icases Hh' with ⟨Ha, Hr⟩
  unfold SparseCore.Cfg.tcSt
  icases Hst with ⟨⟨%W, %hW, HO⟩, Hst⟩
  ihave Hlev := ((K (F := F)).ctx_levAts (EH := EH) (P := P m) κ) $$ Hctx
  iapply ((K (F := F)).wp_liftProg (D (F := F)) 𝒱 (SparseCore.T d) Set.univ none
    (.op (.customCall (Pipeline.entry 0) ()) .ret) _)
  iapply (Pipeline.RegionSeg.wp (pcfgs (F := F)) adm (dats (V2 m)) none cells_inj EP (defs₀ (F := F)) 𝒱₀ (K (F := F)).L (K (F := F)).lev
    (region (V2 m)) d none (by simp) _ _)
  icases HG with ⟨Hg, Htok⟩
  isplitl [Hst Hr Hts]
  rotate_left
  · isplitl [Hb]; · iexact Hb
    isplitl [Ha HO]
    · iapply (show iprop(StableHlo.held (SparseCore.T d) (Pipeline.arrRefs cfg1.spec) (V2 m d) ∗ settled d) ⊢ (region (V2 m)).pre d from .rfl)
      isplitl [Ha]; · iexact Ha
      iexists W
      isplitr; · ipureintro; exact hW
      iapply (Entails.of_eq (congrArg (fun O => (owes (SparseCore.T d) O W : sProp 𝕄)) (paid (F := F) d))); iexact HO
    isplitl [Hlev]; · iexact Hlev
    isplitl [Hg]; · iexact Hg
    iexact Htok
  iintro ⟨Hb, Hpost⟩
  ihave Hpost' := (show (region (V2 m)).post d ⊢ iprop(StableHlo.held (SparseCore.T d) (Pipeline.arrRefs cfg1.spec) (after (V2 m) d) ∗ settled d) from .rfl) $$ Hpost
  icases Hpost' with ⟨Ha, %W', %hW', HO⟩
  rw [wp_ret]; imodintro; imodintro
  isplitl [HO Hst]
  · isplitl [HO]
    · iexists W'
      isplitr; · ipureintro; exact hW'
      iapply (Entails.of_eq (congrArg (fun O => (owes (SparseCore.T d) O W' : sProp 𝕄)) (paid (F := F) d).symm)); iexact HO
    iexact Hst
  isplitl [Ha Hr]
  · iapply (leaves m d)
    isplitl [Ha]; · iexact Ha
    iexact Hr
  isplitl [Hb] <;> iassumption

def fq (d : Dev nD) (s' : Phys nD τ sig (Elt F)) : Prop :=
  s'.mem.mem (xLoc d) = m (xLoc d) ∧ s'.mem.mem (iLoc d) = m (iLoc d) ∧ s'.mem.mem ((SparseCore.T d).loc main_v2) = result m d

set_option maxRecDepth 16384 in
theorem hfin (d : Dev nD) (s' : Phys nD τ sig (Elt F)) : iprop(FIN m d ∗ SI s') ⊢ (⌜fq m d s'⌝ : sProp 𝕄) := by
  iintro ⟨⟨Hx, Hi, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := (SparseCore.T d).loc main_v2) (I := Finset.univ) (q := fullShare) (f := result m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r => (∀ c : Dev nD, r.2.mem (xLoc c) = m (xLoc c) ∧ r.2.mem (iLoc c) = m (iLoc c)
  ∧ r.2.mem ((SparseCore.T c).loc main_v2) = result m c) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (Gh (F := F)) (FIN m) (u₀ (F := F)) (sep_elim_left.trans (hu₀ m)) (hmain m ρ) (fq m) (hfin m) (QC m) (fun _ h hz => ⟨h, hz⟩)

end Cert.Proof.Run

end
-- ==== Proof.Frames.lean ====
/-
  Every program runs to the end with its arguments kept and every semaphore at zero.
-/
module

public import proofs.«01_k».proof.Defs
public import proofs.«01_k».proof.Proof.Gen.ReferenceIdeal.Run
public import proofs.«01_k».proof.Proof.Gen.Kernel
public import proofs.«01_k».proof.Proof.Gen.ReferenceIdeal
public import proofs.«01_k».proof.Proof.Main
public import Idealize.ShloMosaic.Lib.Quiescent

@[expose] public section

noncomputable section

namespace Cert.Proof

open Idealize.ShloMosaic Idealize.SL.Sem

attribute [local instance] Cert.Kernel.Gen.facts Cert.KernelIdeal.Gen.facts Cert.ReferenceIdeal.Gen.facts

theorem frame_idealized (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (Cert.KernelIdeal.threads (F := Ideal)) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1, (h.1 c).2.1⟩, h.2⟩) (Run.run_main (F := Ideal) m ρ)

/-- The kernels' bodies are the same in both printings. -/
theorem bodies_eq : Cert.Kernel.defs₀ (F := Bits) = Cert.KernelIdeal.defs₀ (F := Bits) := by
  funext p ℓ a
  match p, ℓ, a with
  | .tc, ⟨0, _⟩, a => rfl
  | .tc, ⟨1, _⟩, (t, s) => rfl
  | .scScalar _, ⟨0, _⟩, a => rfl
  | .scScalar _, ⟨1, _⟩, a => rfl
  | .scVector _ _, ⟨0, _⟩, a => rfl
  | .scVector _ _, ⟨1, _⟩, a => rfl

theorem table_eq : Cert.Kernel.defs (F := Bits) = Cert.KernelIdeal.defs (F := Bits) :=
  congrArg (fun b => Cert.KernelIdeal.sc.defs (Pipeline.defs Cert.KernelIdeal.pcfgs b)) bodies_eq

theorem frame_printed : Cert.quiescent_Kernel := fun m ρ _ => by
  rw [table_eq]
  exact (θ_run (Cert.KernelIdeal.defs (F := Bits)) (Cert.KernelIdeal.threads (F := Bits)) ⟨m, fun _ => 0, ρ⟩).mono
    (fun _ h => ⟨fun c => ⟨(h.1 c).1, (h.1 c).2.1⟩, h.2⟩) (Run.run_main (F := Bits) m ρ)

theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Count.lean ====
/-
  What the search of one tile ends at, when the graph ids are sorted: the number of ids of its chunk that are at most `g`.
  The chunks of the thirty-two tiles follow one another, so these numbers add up to the number of ids of the whole list that are
  at most `g`, and two neighbouring sums differ by the number of ids equal to `g`.
-/
module

public import proofs.«01_k».proof.Proof.Search
public import Mathlib.Data.Nat.Count
public import Mathlib.Algebra.BigOperators.Intervals

@[expose] public section

noncomputable section

namespace Cert.Proof.Count

open Cert.KernelIdeal Cert.KernelIdeal.Gen Cert.Proof.Search
open Idealize.ShloMosaic

/-- Graph id `k` as a signed number. -/
def val (b : S100000.Idx → BitVec 32) (k : ℕ) : ℤ := (idAt b k).toInt

/-- How many of the first `n` numbers of `v` are at most `g`. -/
def atMost (v : ℕ → ℤ) (g : ℤ) (n : ℕ) : ℕ := Nat.count (fun k => v k ≤ g) n

/-- How many of the first `n` numbers of `v` are `g`. -/
def equal (v : ℕ → ℤ) (g : ℤ) (n : ℕ) : ℕ := Nat.count (fun k => v k = g) n

/-- The graph ids are sorted and each names one of the 128 graphs. -/
structure Sorted (b : S100000.Idx → BitVec 32) : Prop where
  mono : ∀ k, k + 1 < 100000 → val b k ≤ val b (k + 1)
  nonneg : ∀ k, k < 100000 → 0 ≤ val b k
  lt : ∀ k, k < 100000 → val b k < 128

/-! ## A search in a sorted list -/

theorem step_mono {v : ℕ → ℤ} {n : ℕ} (h : ∀ k, k + 1 < n → v k ≤ v (k + 1)) {i j : ℕ} (hij : i ≤ j) (hj : j < n) : v i ≤ v j := by
  induction j, hij using Nat.le_induction with
  | base => exact le_rfl
  | succ j _ ih => exact (ih (by omega)).trans (h j hj)

theorem atMost_le (v : ℕ → ℤ) (g : ℤ) (n : ℕ) : atMost v g n ≤ n := Nat.count_le _

theorem le_iff_lt_atMost {v : ℕ → ℤ} {n : ℕ} (h : ∀ k, k + 1 < n → v k ≤ v (k + 1)) (g : ℤ) {j : ℕ} (hj : j < n) :
    v j ≤ g ↔ j < atMost v g n := by
  constructor
  · intro hg
    have all : ∀ m, m ≤ j + 1 → atMost v g m = m := by
      intro m
      induction m with
      | zero => intro _; rfl
      | succ m ih =>
        intro hm
        have e : atMost v g (m + 1) = atMost v g m + if v m ≤ g then 1 else 0 := Nat.count_succ _ _
        rw [e, ih (by omega), if_pos ((step_mono h (by omega : m ≤ j) hj).trans hg)]
    have e := all (j + 1) le_rfl
    have m : atMost v g (j + 1) ≤ atMost v g n := Nat.count_monotone _ hj
    omega
  · intro hlt
    by_contra hg
    have none : ∀ m, j ≤ m → m ≤ n → atMost v g m ≤ j := by
      intro m hm
      induction m, hm using Nat.le_induction with
      | base => intro _; exact atMost_le v g j
      | succ m hm ih =>
        intro hn
        have e : atMost v g (m + 1) = atMost v g m + if v m ≤ g then 1 else 0 := Nat.count_succ _ _
        have hv : ¬ v m ≤ g := fun q => hg ((step_mono h hm (by omega)).trans q)
        rw [e, if_neg hv]
        exact ih (by omega)
    have := none n hj.le le_rfl
    omega

/-- A halving keeps the count inside the interval, and at least halves the interval. -/
theorem halve_step {v : ℕ → ℤ} {n : ℕ} (h : ∀ k, k + 1 < n → v k ≤ v (k + 1)) (g : ℤ) {p : ℕ × ℕ}
    (hp : p.1 ≤ atMost v g n ∧ atMost v g n ≤ p.2 ∧ p.2 ≤ n) :
    ((halve n v g p).1 ≤ atMost v g n ∧ atMost v g n ≤ (halve n v g p).2 ∧ (halve n v g p).2 ≤ n)
      ∧ (halve n v g p).2 - (halve n v g p).1 ≤ (p.2 - p.1) / 2 := by
  obtain ⟨lo, hi⟩ := p
  simp only [halve] at *
  by_cases hlt : lo < hi
  · have hm : min ((lo + hi) / 2) (n - 1) = (lo + hi) / 2 := by omega
    rw [hm]
    have key := le_iff_lt_atMost h g (show (lo + hi) / 2 < n by omega)
    by_cases hv : v ((lo + hi) / 2) ≤ g
    · have c := key.1 hv
      rw [if_pos ⟨hlt, hv⟩, if_neg (fun q => absurd q.2 (not_lt.2 hv))]
      omega
    · have c : ¬ (lo + hi) / 2 < atMost v g n := fun q => hv (key.2 q)
      rw [if_neg (fun q => hv q.2), if_pos ⟨hlt, not_le.1 hv⟩]
      omega
  · rw [if_neg (fun q => hlt q.1), if_neg (fun q => hlt q.1)]
    omega

theorem halve_many {v : ℕ → ℤ} {n : ℕ} (h : ∀ k, k + 1 < n → v k ≤ v (k + 1)) (g : ℤ) (k : ℕ) :
    let p := (halve n v g)^[k] (0, n)
    (p.1 ≤ atMost v g n ∧ atMost v g n ≤ p.2 ∧ p.2 ≤ n) ∧ p.2 - p.1 ≤ n / 2 ^ k := by
  induction k with
  | zero => exact ⟨⟨Nat.zero_le _, atMost_le v g n, le_rfl⟩, by simp⟩
  | succ k ih =>
    intro p
    have e : p = halve n v g ((halve n v g)^[k] (0, n)) := Function.iterate_succ_apply' _ _ _
    have s := halve_step h g ih.1
    rw [e]
    refine ⟨s.1, s.2.trans ?_⟩
    rw [pow_succ, ← Nat.div_div_eq_div_mul]
    exact Nat.div_le_div_right ih.2

theorem chunk_end {w : ℕ} (hw : w < 32) : 3128 * w + chunkLen w ≤ 100000 := by
  unfold chunkLen; split_ifs <;> omega

theorem found_eq {b : S100000.Idx → BitVec 32} (hb : Sorted b) {w : ℕ} (hw : w < 32) (g : ℕ) :
    found b w g = atMost (fun j => val b (3128 * w + j)) g (chunkLen w) := by
  have hc := chunk_end hw
  have hn := chunkLen_le w
  have h : ∀ k, k + 1 < chunkLen w → chunkId b w k ≤ chunkId b w (k + 1) := fun k hk => hb.mono (3128 * w + k) (by omega)
  have s := halve_many h (g : ℤ) 12
  have z : chunkLen w / 2 ^ 12 = 0 := Nat.div_eq_of_lt (by show chunkLen w < 4096; omega)
  obtain ⟨⟨s₁, s₂, _⟩, s₃⟩ := s
  rw [z] at s₃
  show ((halve (chunkLen w) (chunkId b w) g)^[12] (0, chunkLen w)).1 = atMost (chunkId b w) g (chunkLen w)
  omega

/-! ## All the chunks together -/

theorem atMost_add (v : ℕ → ℤ) (g : ℤ) (a n : ℕ) : atMost v g (a + n) = atMost v g a + atMost (fun k => v (a + k)) g n :=
  Nat.count_add _ _ _

theorem sum_full (v : ℕ → ℤ) (g : ℤ) (W : ℕ) (hW : W ≤ 31) :
    ∑ w ∈ Finset.range W, atMost (fun j => v (3128 * w + j)) g (chunkLen w) = atMost v g (3128 * W) := by
  induction W with
  | zero => rfl
  | succ W ih =>
    have hc : chunkLen W = 3128 := if_neg (by omega)
    rw [Finset.sum_range_succ, ih (by omega), hc, Nat.mul_succ, atMost_add]

theorem sum_chunks (v : ℕ → ℤ) (g : ℤ) :
    ∑ w ∈ Finset.range 32, atMost (fun j => v (3128 * w + j)) g (chunkLen w) = atMost v g 100000 := by
  have hc : chunkLen 31 = 3032 := if_pos rfl
  rw [Finset.sum_range_succ, sum_full v g 31 le_rfl, hc, ← atMost_add]

theorem sum_found {b : S100000.Idx → BitVec 32} (hb : Sorted b) (g : ℕ) :
    ∑ w ∈ Finset.range 32, found b w g = atMost (val b) g 100000 := by
  rw [← sum_chunks]
  exact Finset.sum_congr rfl fun w hw => found_eq hb (Finset.mem_range.1 hw) g

/-! ## The number of ids equal to a graph -/

theorem atMost_split (v : ℕ → ℤ) (g : ℤ) (n : ℕ) : atMost v g n = atMost v (g - 1) n + equal v g n := by
  induction n with
  | zero => rfl
  | succ n ih =>
    have e₁ : atMost v g (n + 1) = atMost v g n + if v n ≤ g then 1 else 0 := Nat.count_succ _ _
    have e₂ : atMost v (g - 1) (n + 1) = atMost v (g - 1) n + if v n ≤ g - 1 then 1 else 0 := Nat.count_succ _ _
    have e₃ : equal v g (n + 1) = equal v g n + if v n = g then 1 else 0 := Nat.count_succ _ _
    rw [e₁, e₂, e₃, ih]
    split_ifs <;> omega

theorem atMost_neg {v : ℕ → ℤ} {n : ℕ} (h : ∀ k, k < n → 0 ≤ v k) : atMost v (-1) n = 0 := by
  induction n with
  | zero => rfl
  | succ n ih =>
    have e : atMost v (-1) (n + 1) = atMost v (-1) n + if v n ≤ -1 then 1 else 0 := Nat.count_succ _ _
    have := h n (by omega)
    rw [e, ih fun k hk => h k (by omega), if_neg (by omega)]

theorem equal_pos {v : ℕ → ℤ} {n k : ℕ} (hk : k < n) : 0 < equal v (v k) n := by
  have e : equal v (v k) (k + 1) = equal v (v k) k + if v k = v k then 1 else 0 := Nat.count_succ _ _
  rw [if_pos rfl] at e
  have m : equal v (v k) (k + 1) ≤ equal v (v k) n := Nat.count_monotone _ hk
  omega

theorem equal_le (v : ℕ → ℤ) (g : ℤ) (n : ℕ) : equal v g n ≤ n := Nat.count_le _

end Cert.Proof.Count

end
-- ==== Proof.Scale.lean ====
/-
  The kernel's scale of a row over the extended reals, when the graph ids are sorted: one over the square root of the number of
  rows in the row's graph.
-/
module

public import proofs.«01_k».proof.Proof.Count
public import proofs.«01_k».proof.Proof.Main
public import Idealize.ShloMosaic.Lib.ValueIdx
public import Idealize.ShloMosaic.PureOps.Ideal.Laws
public import Idealize.ShloMosaic.Lib.Routing.Ops

@[expose] public section

noncomputable section

namespace Cert.Proof.Scale

open Cert.KernelIdeal Cert.KernelIdeal.Gen Cert.Proof.Search Cert.Proof.Run Cert.Proof.Count
open Idealize.ShloMosaic Idealize.ShloMosaic.ValueIdx

attribute [local instance] Cert.KernelIdeal.Gen.facts

/-- A number of rows as a value. -/
def num (n : ℕ) : EReal := ((n : ℝ) : EReal)

theorem num_sum (f : ℕ → ℕ) (n : ℕ) : ∑ k : Fin n, num (f k.val) = num (∑ k ∈ Finset.range n, f k) := by
  rw [Fin.sum_univ_eq_sum_range (fun k => num (f k)) n]
  induction n with
  | zero => simp [num]
  | succ n ih => rw [Finset.sum_range_succ, Finset.sum_range_succ, ih]; simp [num]

theorem counts_val {b : S100000.Idx → BitVec 32} (w g : ℕ) : ((BitVec.ofNat 32 (found b w g)).toInt : ℤ) = found b w g := by
  have h := state_inv b w g 12
  have hn := chunkLen_le w
  have hf : found b w g ≤ 3128 := by unfold found; omega
  exact toInt_small (by omega)

theorem upTo_at {b : S100000.Idx → BitVec 32} (hb : Sorted b) (g : Fin 128) :
    upTo (F := Ideal) (counts b) (ix2 (0 : Fin 1) g) = num (atMost (val b) g.val 100000) := by
  unfold upTo
  rw [shapeCast_self]
  refine (shapeCast_addUnit_apply ![128] _ _ _).trans ?_
  refine (Ideal.multiReduction_add_single _ _ reduces_S32x128_S128 _ _ _).trans ?_
  rw [← sum_found hb, ← num_sum]
  refine Finset.sum_congr rfl fun k _ => ?_
  have e : (reduces_S32x128_S128.lift (fun a => (ix2 (0 : Fin 1) g : S1x128.Idx) a.succ) k) = (ix2 k g : S32x128.Idx) := by
    funext a
    match a with
    | ⟨0, _⟩ => rfl
    | ⟨1, _⟩ => rfl
  show (((counts b _).toInt : ℝ) : EReal) = _
  rw [e]
  show (((BitVec.ofNat 32 (found b k.val g.val)).toInt : ℝ) : EReal) = _
  rw [counts_val]
  rfl

theorem num_sub (a n : ℕ) : num (a + n) - num a = num n := by
  unfold num
  rw [← EReal.coe_sub]
  refine congrArg (fun r : ℝ => (r : EReal)) ?_
  rw [Nat.cast_add, add_sub_cancel_left]

theorem upToPrev_at {b : S100000.Idx → BitVec 32} (hb : Sorted b) (g : Fin 128) :
    upToPrev (F := Ideal) (counts b) (ix2 (0 : Fin 1) g) = num (atMost (val b) ((g.val : ℤ) - 1) 100000) := by
  unfold upToPrev
  show Scalar.select (IntOp.cmpi .eq (iota .tc S1x128 32 [1] iota_S1x128_d1_w32 (ix2 (0 : Fin 1) g)) 0#32) (Ideal.ofBits .f32 0x00000000#32)
    (dynamicRotate 1 1#32 none (upTo (F := Ideal) (counts b)) rotates_S1x128_d1 (ix2 (0 : Fin 1) g)) = _
  rw [iota_single_apply, Ideal.ofBits_zero_f32]
  have hg := g.isLt
  have c : IntOp.cmpi .eq (BitVec.ofNat 32 ((ix2 (0 : Fin 1) g : S1x128.Idx) 1).val) 0#32 = BitVec.ofBool (decide (g.val = 0)) := by
    show IntOp.cmpi .eq (BitVec.ofNat 32 g.val) 0#32 = _
    generalize g.val = x at hg
    revert x; decide
  rw [c, select_ofBool]
  by_cases h0 : g.val = 0
  · rw [if_pos (decide_eq_true h0), h0]
    have z := atMost_neg (v := val b) (n := 100000) hb.nonneg
    show (0 : EReal) = num (atMost (val b) (((0 : ℕ) : ℤ) - 1) 100000)
    rw [show ((0 : ℕ) : ℤ) - 1 = -1 from rfl, z]
    simp [num]
  · rw [if_neg (by simpa using h0)]
    have e : dynamicRotate 1 1#32 none (upTo (F := Ideal) (counts b)) rotates_S1x128_d1 (ix2 (0 : Fin 1) g)
        = upTo (F := Ideal) (counts b) (ix2 (0 : Fin 1) ⟨g.val - 1, by omega⟩) := by
      refine congrArg (upTo (F := Ideal) (counts b)) ?_
      funext a
      match a with
      | ⟨0, _⟩ => rfl
      | ⟨1, _⟩ =>
        apply Fin.ext
        show (g.val + 128 - (1 + 0) % 128) % 128 = g.val - 1
        omega
    rw [e, upTo_at hb]
    show num (atMost (val b) ((g.val - 1 : ℕ) : ℤ) 100000) = _
    rw [Nat.cast_sub (by omega)]
    rfl

theorem inverse_at {b : S100000.Idx → BitVec 32} (hb : Sorted b) (g : Fin 128) :
    inverse (F := Ideal) (counts b) (ix1 g) = Ideal.rsqrt (num (equal (val b) g.val 100000)) := by
  unfold inverse
  refine (shapeCast_dropUnit_apply ![128] _ _ _).trans ?_
  have e : (Fin.cons ⟨0, Nat.one_pos⟩ (ix1 g : S128.Idx) : S1x128.Idx) = ix2 (0 : Fin 1) g := by
    funext a
    match a with
    | ⟨0, _⟩ => rfl
    | ⟨1, _⟩ => rfl
  refine (congrArg (rsqrt (subf (upTo (F := Ideal) (counts b)) (upToPrev (F := Ideal) (counts b)))) e).trans ?_
  show Ideal.rsqrt (upTo (F := Ideal) (counts b) (ix2 (0 : Fin 1) g) - upToPrev (F := Ideal) (counts b) (ix2 (0 : Fin 1) g)) = _
  rw [upTo_at hb, upToPrev_at hb, atMost_split, num_sub]

/-! ## The row's scale -/

/-- Picking by matching: the sum over all graphs of the entry where the graph is `g` and zero elsewhere is the entry of `g`. -/
theorem pick_sum (f : Fin 128 → EReal) (g : Fin 128) : (∑ k : Fin 128, if g = k then f k else 0) = f g := by
  rw [Finset.sum_ite_eq, if_pos (Finset.mem_univ _)]

theorem word_eq {g k : Fin 128} : IntOp.cmpi .eq (BitVec.ofNat 32 g.val) (BitVec.ofNat 32 k.val) = BitVec.ofBool (decide (g = k)) := by
  show BitVec.ofBool (BitVec.ofNat 32 g.val == BitVec.ofNat 32 k.val) = _
  congr 1
  rw [Bool.eq_iff_iff, beq_iff_eq, decide_eq_true_eq]
  constructor
  · intro e
    have e' := congrArg BitVec.toNat e
    rw [BitVec.toNat_ofNat, BitVec.toNat_ofNat] at e'
    apply Fin.ext
    omega
  · rintro rfl; rfl

theorem rowScale_at (cnt : S32x128.Idx → BitVec 32) (y : S4096.Idx → BitVec 32) (j : Fin 4096) (g : Fin 128)
    (hy : y (ix1 j) = BitVec.ofNat 32 g.val) :
    rowScale (F := Ideal) cnt y (ix1 j) = inverse (F := Ideal) cnt (ix1 g) := by
  unfold rowScale
  refine (Ideal.multiReduction_add_single _ _ reduces_S4096x128_S4096 _ _ _).trans ?_
  rw [← pick_sum (fun k => inverse (F := Ideal) cnt (ix1 k)) g]
  refine Finset.sum_congr rfl fun (k : Fin 128) _ => ?_
  have e : (reduces_S4096x128_S4096.lift (ix1 j : S4096.Idx) k) = (ix2 j k : S4096x128.Idx) := by
    funext a
    match a with
    | ⟨0, _⟩ => rfl
    | ⟨1, _⟩ => rfl
  rw [e]
  have e₁ : broadcastTo S4096x128 (shapeCast S4096x1 (shapeCast S4096 y shapeCasts_S4096_S4096) shapeCasts_S4096_S4096x1) broadcasts_S4096x1_S4096x128 (ix2 j k)
      = BitVec.ofNat 32 g.val := by
    rw [shapeCast_self, ← hy]
    refine (broadcastTo_apply _ _ _ (ix2 j (0 : Fin 1) : S4096x1.Idx) fun a => ?_).trans ?_
    · match a with
      | ⟨0, _⟩ => rfl
      | ⟨1, _⟩ => rfl
    · refine shapeCast_apply _ _ _ (ix1 j : S4096.Idx) ?_
      rw [Shape.rowMajor_val_one, Shape.rowMajor_val_two]
      show j.val = j.val * 1 + 0
      omega
  have e₂ : broadcastTo S4096x128 (shapeCast S1x128 (shapeCast S1x128 (inverse (F := Ideal) cnt) shapeCasts_S128_S1x128) shapeCasts_S1x128_S1x128) broadcasts_S1x128_S4096x128 (ix2 j k)
      = inverse (F := Ideal) cnt (ix1 k) := by
    rw [shapeCast_self]
    refine (broadcastTo_apply _ _ _ (ix2 (0 : Fin 1) k : S1x128.Idx) fun a => ?_).trans ?_
    · match a with
      | ⟨0, _⟩ => rfl
      | ⟨1, _⟩ => rfl
    · refine (shapeCast_addUnit_apply ![128] _ _ _).trans (congrArg _ ?_)
      funext a
      match a with
      | ⟨0, _⟩ => rfl
  show Scalar.select (IntOp.cmpi .eq _ (iota .tc S4096x128 32 [1] iota_S4096x128_d1_w32 (ix2 j k))) _ (Ideal.ofBits .f32 0x00000000#32) = _
  rw [e₁, e₂, iota_single_apply, Ideal.ofBits_zero_f32]
  show Scalar.select (IntOp.cmpi .eq (BitVec.ofNat 32 g.val) (BitVec.ofNat 32 k.val)) _ _ = _
  rw [word_eq, select_ofBool]
  by_cases h : g = k
  · rw [if_pos (decide_eq_true h), if_pos h]
  · rw [if_neg (by simpa using h), if_neg h]

/-! ## The whole result -/

/-- Each graph id of the list is one of the 128 graph numbers. -/
theorem id_graph {b : S100000.Idx → BitVec 32} (hb : Sorted b) (r : Fin 100000) :
    ∃ g : Fin 128, b (ix1 r) = BitVec.ofNat 32 g.val ∧ val b r.val = (g.val : ℤ) := by
  have h0 := hb.nonneg r.val r.isLt
  have h1 := hb.lt r.val r.isLt
  have e : idAt b r.val = b (ix1 r) := by
    unfold idAt
    rw [dif_pos r.isLt]
    refine congrArg b (funext fun a => ?_)
    match a with
    | ⟨0, _⟩ => rfl
  refine ⟨⟨(val b r.val).toNat, by omega⟩, ?_, (Int.toNat_of_nonneg h0).symm⟩
  rw [← e]
  apply BitVec.eq_of_toInt_eq
  show (idAt b r.val).toInt = (BitVec.ofNat 32 (val b r.val).toNat).toInt
  rw [toInt_small (by omega), Int.toNat_of_nonneg h0]
  rfl

theorem number_at (b : S100000.Idx → BitVec 32) (r : Fin 100000) :
    numbers (padded b) (r.val / 4096) (ix1 (⟨r.val % 4096, Nat.mod_lt _ (by decide)⟩ : Fin 4096)) = b (ix1 r) := by
  have hr := r.isLt
  have hq : 4096 * (r.val / 4096) + r.val % 4096 = r.val := Nat.div_add_mod _ _
  have hlt : 4096 * (r.val / 4096) + r.val % 4096 < 102400 := by omega
  unfold numbers
  rw [dif_pos hlt]
  have e : (fun | 0 => ⟨4096 * (r.val / 4096) + r.val % 4096, hlt⟩ : S102400.Idx) = ix1 (⟨r.val, by omega⟩ : Fin 102400) := by
    funext a
    match a with
    | ⟨0, _⟩ => exact Fin.ext hq
  refine (congrArg (padded b) e).trans ?_
  refine (Routing.pad1 b (constantI S_ 32 0#32) pads_S100000_S102400_024000 h_S_ _).trans ?_
  rw [dif_pos ⟨Nat.zero_le _, hr⟩]
  rfl

/-- Row `r` of the kernel's result: the row of `x` over the square root of the number of rows in the row's graph. -/
theorem scaled_at {b : S100000.Idx → BitVec 32} (hb : Sorted b) (X : S100000x512.Idx → Ideal .f32) (r : Fin 100000) (c : Fin 512) :
    scaled (F := Ideal) X (padded b) (counts b) (ix2 r c)
      = X (ix2 r c) * Ideal.rsqrt (num (equal (val b) (val b r.val) 100000)) := by
  obtain ⟨g, hw, hv⟩ := id_graph hb r
  show X (ix2 r c) * blockScale (F := Ideal) (counts b) (numbers (padded b) (r.val / 4096)) _ = _
  refine congrArg (X (ix2 r c) * ·) ?_
  rw [hv, ← inverse_at hb g,
    ← rowScale_at (counts b) (numbers (padded b) (r.val / 4096)) ⟨r.val % 4096, Nat.mod_lt _ (by decide)⟩ g ((number_at b r).trans hw)]
  unfold blockScale
  generalize rowScale (F := Ideal) (counts b) (numbers (padded b) (r.val / 4096)) = s
  refine (broadcastTo_apply _ _ _ (ix2 (⟨r.val % 4096, Nat.mod_lt _ (by decide)⟩ : Fin 4096) (0 : Fin 1) : S4096x1.Idx) fun a => ?_).trans ?_
  · match a with
    | ⟨0, _⟩ => rfl
    | ⟨1, _⟩ => rfl
  · refine shapeCast_apply _ _ _ (ix1 (⟨r.val % 4096, Nat.mod_lt _ (by decide)⟩ : Fin 4096) : S4096.Idx) ?_
    rw [Shape.rowMajor_val_one, Shape.rowMajor_val_two]
    exact (Nat.mul_one _).symm

end Cert.Proof.Scale

end
-- ==== Proof.Degrees.lean ====
/-
  The reference's scale of a row over the extended reals, when the graph ids are sorted: the number of rows in the row's graph to the
  power minus one half.
-/
module

public import proofs.«01_k».proof.Proof.Scale
public import proofs.«01_k».proof.Proof.Gen.ReferenceIdeal
public import Idealize.ShloMosaic.Lib.Routing.OpsSet
public import Idealize.ShloMosaic.Lib.Routing.OpsPair
public import Idealize.ShloMosaic.Lib.IdealHost
public import Mathlib.Analysis.SpecialFunctions.Pow.Real

@[expose] public section

noncomputable section

namespace Cert.Proof.Degrees

open Cert.ReferenceIdeal Cert.ReferenceIdeal.Gen Cert.Proof.Search Cert.Proof.Count Cert.Proof.Scale
open Cert.ReferenceIdeal.Facts₀
open Idealize.ShloMosaic Idealize.ShloMosaic.ValueIdx Idealize.ShloMosaic.Routing

attribute [local instance] Cert.ReferenceIdeal.Gen.facts

/-! ## The degrees -/

/-- Update `i` of the reference's scatter lands at the graph its index word names. -/
theorem lands (idx : IVec S100000x1 32) (i : Fin 100000) (x : Fin 128) :
    scatter_S128_S100000x1_S100000_n_0_0_1.resultIdx? (ix1 i) idx = some (ix1 x) ↔ (idx (ix2 i (0 : Fin 1))).toInt = (x.val : ℤ) := by
  have hw : scatter_S128_S100000x1_S100000_n_0_0_1.window (ix1 i) 0 = 0 := rfl
  have hs : scatter_S128_S100000x1_S100000_n_0_0_1.start (ix1 i) idx 0 = (idx (ix2 i (0 : Fin 1))).toInt := by
    refine congrArg (fun k => (idx k).toInt) (funext fun a => Fin.ext ?_)
    match a with
    | ⟨0, _⟩ => rfl
    | ⟨1, _⟩ => rfl
  rw [resultIdx?_ix1, hw, hs]
  simp

/-- Adding one at each step that hits counts the hits. -/
theorem count_hits {ι : Type} (hit : ι → Prop) [DecidablePred hit] (l : List ι) (z : ℕ) :
    l.foldl (fun a n => if hit n then IntOp.addi a 1#32 else a) (BitVec.ofNat 32 z) = BitVec.ofNat 32 (z + l.countP (fun n => decide (hit n))) := by
  induction l generalizing z with
  | nil => rfl
  | cons n l ih =>
    rw [List.foldl_cons, List.countP_cons]
    by_cases h : hit n
    · have e : IntOp.addi (BitVec.ofNat 32 z) 1#32 = BitVec.ofNat 32 (z + 1) := (BitVec.ofNat_add z 1).symm
      rw [if_pos h, e, ih, if_pos (decide_eq_true h)]
      congr 1; omega
    · rw [if_neg h, ih, if_neg (by simpa using h)]
      rfl

/-- The scatter of ones onto zeros counts, at graph `x`, the rows of graph `x`. -/
theorem scatter_count (b : S100000.Idx → BitVec 32) (z : IVec S128 32) (hz : ∀ i, z i = 0#32) (idx : IVec S100000x1 32)
    (hidx : ∀ r : Fin 100000, idx (ix2 r (0 : Fin 1)) = b (ix1 r)) (u : IVec S100000 32) (hu : ∀ i, u i = 1#32) (x : Fin 128) :
    Host.scatter scatter_S128_S100000x1_S100000_n_0_0_1 IntOp.addi z idx u (ix1 x) = BitVec.ofNat 32 (equal (val b) x.val 100000) := by
  rw [scatter_at, hz]
  have step : (fun (a : BitVec 32) (n : Fin S100000.numel) =>
        if scatter_S128_S100000x1_S100000_n_0_0_1.resultIdx? (S100000.rowMajor.symm n) idx = some (ix1 x) then IntOp.addi a (u (S100000.rowMajor.symm n)) else a)
      = fun a n => if val b n.val = (x.val : ℤ) then IntOp.addi a 1#32 else a := by
    funext a n
    have hn : n.val < 100000 := lt_of_lt_of_eq n.isLt (numel1 100000)
    have e : S100000.rowMajor.symm n = ix1 (⟨n.val, hn⟩ : Fin 100000) := symm1 n
    have hv : val b n.val = (b (ix1 (⟨n.val, hn⟩ : Fin 100000))).toInt := by
      unfold val idAt
      rw [dif_pos hn]
      refine congrArg (fun k => (b k).toInt) (funext fun a => ?_)
      match a with
      | ⟨0, _⟩ => rfl
    rw [e, hu, hv, ← hidx]
    exact if_congr (lands idx _ x) rfl rfl
  rw [step]
  refine (count_hits (fun n : Fin S100000.numel => val b n.val = (x.val : ℤ)) _ 0).trans ?_
  rw [Nat.zero_add, countP_finRange _ (fun k => val b k = (x.val : ℤ)), numel1]
  rfl

/-! ## Ids in range pass the clip and the wrap -/

theorem clip_id {w : BitVec 32} (h : 0 ≤ w.toInt) : IntOp.maxsi 0#32 w = w := by
  unfold IntOp.maxsi
  rw [BitVec.slt_eq_decide]
  by_cases e : w.toInt < (0#32).toInt
  · have : (0#32 : BitVec 32).toInt = 0 := by decide
    omega
  · simp [e]
    intro h'
    apply BitVec.eq_of_toInt_eq
    simp at *
    omega

theorem wrap_id {w a : BitVec 32} (h : 0 ≤ w.toInt) : Scalar.select (IntOp.cmpi .slt w 0#32) a w = w := by
  have z : (0#32 : BitVec 32).toInt = 0 := by decide
  show Scalar.select (BitVec.ofBool (w.slt 0#32)) a w = w
  rw [select_ofBool, BitVec.slt_eq_decide, if_neg (by rw [z]; simpa using h)]

theorem id_nonneg {b : S100000.Idx → BitVec 32} (hb : Sorted b) (r : Fin 100000) : 0 ≤ (b (ix1 r)).toInt := by
  obtain ⟨g, hw, _⟩ := id_graph hb r
  rw [hw, toInt_small (by have := g.isLt; omega)]
  omega

/-! ## The power -/

theorem half_word : Ideal.ofBits .f32 0xBF000000#32 = (((-(1 / 2) : ℝ)) : EReal) := by
  simp [Ideal.ofBits, Ideal.ieee]
  rw [← EReal.coe_mul]
  norm_num

/-- One over the square root is the power minus one half, of a positive number. -/
theorem rsqrt_eq_pow {n : ℕ} (h : 0 < n) : Ideal.rsqrt (num n) = Ideal.pow (num n) (Ideal.ofBits .f32 0xBF000000#32) := by
  have hr : (0 : ℝ) < (n : ℝ) := Nat.cast_pos.2 h
  rw [half_word]
  show (if (n : ℝ) < 0 then ⊥ else if (n : ℝ) = 0 then ⊤ else (((Real.sqrt n)⁻¹ : ℝ) : EReal)) = ((Real.rpow n (-(1 / 2)) : ℝ) : EReal)
  rw [if_neg hr.not_gt, if_neg hr.ne']
  refine congrArg (fun r : ℝ => (r : EReal)) ?_
  rw [Real.sqrt_eq_rpow]
  exact (Real.rpow_neg hr.le _).symm

end Cert.Proof.Degrees

end
-- ==== Proof.Equation.lean ====
/-
  The kernel and its reference give the same array over the extended reals whenever the graph ids are sorted and in range.
-/
module

public import proofs.«01_k».proof.Proof.Degrees
public import proofs.«01_k».proof.Proof.Frames

@[expose] public section

noncomputable section

namespace Cert.Proof

open Idealize.ShloMosaic Idealize.ShloMosaic.ValueIdx Idealize.SL.Sem
open Cert.Proof.Search Cert.Proof.Count Cert.Proof.Scale Cert.Proof.Degrees

attribute [local instance] Cert.Kernel.Gen.facts Cert.KernelIdeal.Gen.facts Cert.ReferenceIdeal.Gen.facts

/-! ## What the precondition says -/

theorem sorted_facts : Cert.Pre_sorted_graph_ids.Facts where
  slices_S100000_S99999_0 := by decide
  bcast_S_S99999 := by decide
  slices_S100000_S99999_1 := by decide

attribute [local instance] sorted_facts

/-- Two bits joined are set exactly when both are. -/
theorem both_set {p q : BitVec 1} (h : IntOp.andi p q = 1#1) : p = 1#1 ∧ q = 1#1 := by
  revert p q; decide

theorem set_ofBool {p : Bool} (h : BitVec.ofBool p = 1#1) : p = true := by
  revert p; decide

theorem sorted_of_pre (x : FVec Ideal Cert.Pre_sorted_graph_ids.S100000x512 .f32) (b : IVec Cert.Pre_sorted_graph_ids.S100000 32)
    (h : Cert.Pre_sorted_graph_ids.fn (F := Ideal) x b = fun _ => 1#1) : Sorted b := by
  have key : ∀ k (_ : k + 1 < 100000), 0 ≤ val b k ∧ val b k ≤ val b (k + 1) ∧ val b (k + 1) < 128 := by
    intro k hk
    have e := congrFun h (ix1 (⟨k, by omega⟩ : Fin 99999))
    have a₀ : extractStridedSlice Cert.Pre_sorted_graph_ids.S99999 ![0] b Cert.Pre_sorted_graph_ids.Facts.slices_S100000_S99999_0 (ix1 (⟨k, by omega⟩ : Fin 99999)) = idAt b k := by
      unfold idAt
      rw [dif_pos (by omega)]
      refine extractStridedSlice_apply _ _ _ _ _ fun a => ?_
      match a with
      | ⟨0, _⟩ => exact (Nat.zero_add _).symm
    have a₁ : extractStridedSlice Cert.Pre_sorted_graph_ids.S99999 ![1] b Cert.Pre_sorted_graph_ids.Facts.slices_S100000_S99999_1 (ix1 (⟨k, by omega⟩ : Fin 99999)) = idAt b (k + 1) := by
      unfold idAt
      rw [dif_pos hk]
      refine extractStridedSlice_apply _ _ _ _ _ fun a => ?_
      match a with
      | ⟨0, _⟩ => exact Nat.add_comm _ _
    have e' : IntOp.andi (IntOp.andi (IntOp.cmpi .sge (idAt b k) 0#32) (IntOp.cmpi .sle (idAt b k) (idAt b (k + 1)))) (IntOp.cmpi .slt (idAt b (k + 1)) 128#32) = 1#1 := by
      rw [← a₀, ← a₁]; exact e
    obtain ⟨e₁₂, e₃⟩ := both_set e'
    obtain ⟨e₁, e₂⟩ := both_set e₁₂
    have f₁ := set_ofBool (p := (0#32).sle (idAt b k)) e₁
    have f₂ := set_ofBool (p := (idAt b k).sle (idAt b (k + 1))) e₂
    have f₃ := set_ofBool (p := (idAt b (k + 1)).slt 128#32) e₃
    rw [BitVec.sle_eq_decide, decide_eq_true_eq] at f₁ f₂
    rw [BitVec.slt_eq_decide, decide_eq_true_eq] at f₃
    exact ⟨f₁, f₂, f₃⟩
  refine ⟨fun k hk => (key k hk).2.1, fun k hk => ?_, fun k hk => ?_⟩
  · rcases Nat.lt_or_ge (k + 1) 100000 with h' | h'
    · exact (key k h').1
    · obtain rfl : k = 99998 + 1 := by omega
      have := key 99998 (by omega)
      omega
  · rcases Nat.eq_zero_or_pos k with h' | h'
    · have := key 0 (by omega)
      subst h'; omega
    · obtain ⟨j, rfl⟩ : ∃ j, k = j + 1 := ⟨k - 1, by omega⟩
      exact (key j hk).2.2

/-! ## The reference's array -/

section Reference

open Cert.ReferenceIdeal Cert.ReferenceIdeal.Gen

/-- A number at every index. -/
theorem fill_at {t : Shape} {α : Type} (dims : Fin S_.rank → Fin t.rank) (h : S_.BroadcastsInDim t dims) (x : S_.Idx → α) (v : α)
    (hx : ∀ i, x i = v) (j : t.Idx) : broadcastInDim t dims h x j = v := hx _

/-- A column of words, read at a row. -/
theorem column_at {α : Type} (y : S100000.Idx → α) (r : Fin 100000) :
    broadcastInDim S100000x1 ![0] bcast_S100000_S100000x1_0 y (ix2 r (0 : Fin 1)) = y (ix1 r) := by
  refine broadcastInDim_apply _ _ _ _ _ fun a => ?_
  match a with
  | ⟨0, _⟩ => rfl

/-- The ids clipped at zero from below. -/
def clipped (b : IVec S100000 32) : IVec S100000 32 := maxsi (broadcastInDim S100000 ![] bcast_S_S100000 (id (constantI S_ 32 0#32))) b

/-- The ids with 128 added to the negative ones. -/
def wrapped (b : IVec S100000 32) : IVec S100000 32 :=
  select (cmpi .slt b (broadcastInDim S100000 ![] bcast_S_S100000 (constantI S_ 32 0#32)))
    (addi b (broadcastInDim S100000 ![] bcast_S_S100000 (constantI S_ 32 128#32))) b

/-- The number of rows of each graph. -/
def degrees (b : IVec S100000 32) : IVec S128 32 :=
  Host.scatter scatter_S128_S100000x1_S100000_n_0_0_1 IntOp.addi (broadcastInDim S128 ![] bcast_S_S128 (constantI S_ 32 0#32))
    (broadcastInDim S100000x1 ![0] bcast_S100000_S100000x1_0 (wrapped (clipped b))) (broadcastInDim S100000 ![] bcast_S_S100000 (constantI S_ 32 1#32))

/-- The degrees to the power minus one half. -/
def powers (b : IVec S100000 32) : FVec Ideal S128 .f32 :=
  Host.powf (sitofp .f32 (degrees b)) (broadcastInDim S128 ![] bcast_S_S128 (constant S_ .f32 0xBF000000#32))

/-- What the reference computes. -/
def expected (x : FVec Ideal S100000x512 .f32) (b : IVec S100000 32) : FVec Ideal S100000x512 .f32 :=
  mulf x (broadcastInDim S100000x512 ![0, 1] bcast_S100000x1_S100000x512_0_1 (broadcastInDim S100000x1 ![0] bcast_S100000_S100000x1_0
    (Host.gather gather_S128_S100000x1_S100000_n_0_n_n_0_1_1 (powers b) (broadcastInDim S100000x1 ![0] bcast_S100000_S100000x1_0 (wrapped b)))))

theorem clipped_at {b : IVec S100000 32} (hb : Sorted b) (r : Fin 100000) : clipped b (ix1 r) = b (ix1 r) := clip_id (id_nonneg hb r)

theorem wrapped_at (y : IVec S100000 32) (r : Fin 100000) (h : 0 ≤ (y (ix1 r)).toInt) : wrapped y (ix1 r) = y (ix1 r) := wrap_id h

theorem degrees_at {b : IVec S100000 32} (hb : Sorted b) (g : Fin 128) :
    degrees b (ix1 g) = BitVec.ofNat 32 (equal (val b) g.val 100000) :=
  scatter_count b _ (fun _ => rfl) _ (fun r => by
    rw [column_at, wrapped_at, clipped_at hb]
    rw [clipped_at hb]; exact id_nonneg hb r) _ (fun _ => rfl) g

theorem powers_at {b : IVec S100000 32} (hb : Sorted b) (g : Fin 128) :
    powers b (ix1 g) = Ideal.pow (num (equal (val b) g.val 100000)) (Ideal.ofBits .f32 0xBF000000#32) := by
  have e : ((degrees b (ix1 g)).toInt : ℤ) = equal (val b) g.val 100000 := by
    rw [degrees_at hb]
    exact toInt_small ((equal_le _ _ _).trans_lt (by decide))
  show Ideal.pow (((degrees b (ix1 g)).toInt : ℝ) : EReal) (Ideal.ofBits .f32 0xBF000000#32) = _
  rw [e]
  rfl

theorem expected_at {b : IVec S100000 32} (hb : Sorted b) (x : FVec Ideal S100000x512 .f32) (r : Fin 100000) (c : Fin 512) :
    expected x b (ix2 r c) = x (ix2 r c) * Ideal.pow (num (equal (val b) (val b r.val) 100000)) (Ideal.ofBits .f32 0xBF000000#32) := by
  obtain ⟨g, hw, hv⟩ := id_graph hb r
  refine congrArg (x (ix2 r c) * ·) ?_
  rw [hv, ← powers_at hb g]
  refine (broadcastInDim_apply _ _ _ _ (ix2 r (0 : Fin 1) : S100000x1.Idx) fun a => ?_).trans ?_
  · match a with
    | ⟨0, _⟩ => rfl
    | ⟨1, _⟩ => rfl
  · rw [column_at]
    refine Routing.gather_take1 _ rfl rfl rfl rfl _ _ r g ?_ (by decide)
    rw [column_at, wrapped_at b r (id_nonneg hb r), hw]

end Reference

/-! ## The two arrays are one -/

theorem arrays_eq {b : IVec Cert.KernelIdeal.S100000 32} (hb : Sorted b) (x : FVec Ideal Cert.KernelIdeal.S100000x512 .f32) :
    Run.scaled (F := Ideal) x (Run.padded b) (Run.counts b) = expected x b := by
  funext i
  obtain ⟨r, c, rfl⟩ : ∃ (r : Fin 100000) (c : Fin 512), i = ix2 r c := ⟨i 0, i 1, eq_ix2 i⟩
  rw [scaled_at hb, expected_at hb, rsqrt_eq_pow (equal_pos r.isLt)]

theorem algebra : Cert.algebraic_KernelIdeal_ReferenceIdeal_pre_sorted_graph_ids := by
  intro m g m' g' hpre hargs
  refine ⟨fun c => Run.result (F := Ideal) m c, ?_, ?_⟩
  · exact (θ_run Cert.KernelIdeal.defs _ _).mono (fun _ h c => ⟨(h.1 c).2.2, (h.1 c).1, (h.1 c).2.1⟩) (Run.run_main (F := Ideal) m g)
  · refine (θ_run Cert.ReferenceIdeal.defs _ _).mono (fun r h c => ⟨?_, (h c).2⟩) (Cert.ReferenceIdeal.Value.run (F := Ideal) m' g')
    have hb := sorted_of_pre _ _ (hpre c)
    have e : r.2.mem ((c.tc : Thread Cert.ReferenceIdeal.nD Cert.ReferenceIdeal.τ).loc Cert.ReferenceIdeal.main_v22)
        = expected (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1)) := (h c).1
    rw [e, (hargs c).1, (hargs c).2]
    exact (arrays_eq hb _).symm

end Cert.Proof

end
-- ==== Proof.lean ====
/-
  The claim: the frames of the kernel and of its reference, the idealization's statement, and that kernel and reference give equal
  results over the extended reals when the graph ids are sorted.
-/
module

public import proofs.«01_k».proof.Defs
public import proofs.«01_k».proof.Proof.Frames
public import proofs.«01_k».proof.Proof.Equation

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, sorted_facts,
  frame_printed, fun m ρ _ => frame_idealized m ρ, fun m ρ _ => frame_idealized m ρ, fun m ρ _ => frame_reference m ρ,
  fun m ρ _ => frame_reference m ρ, trivial, algebra⟩

end Cert.Proof

end
